-- ==== Defs.lean ====
def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v4)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v4) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v42) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v3)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v3) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v31) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v28)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hFfnLast : Cert.FfnLast.Facts) (hFfnLastIdeal : Cert.FfnLastIdeal.Facts) (hFfnLastRefIdeal : Cert.FfnLastRefIdeal.Facts) (hFfn : Cert.Ffn.Facts) (hFfnIdeal : Cert.FfnIdeal.Facts) (hFfnRefIdeal : Cert.FfnRefIdeal.Facts) (hFfnFirst : Cert.FfnFirst.Facts) (hFfnFirstIdeal : Cert.FfnFirstIdeal.Facts) (hFfnFirstRefIdeal : Cert.FfnFirstRefIdeal.Facts) (hMerge : Cert.Merge.Facts) (hMergeIdeal : Cert.MergeIdeal.Facts) (hMergeRefIdeal : Cert.MergeRefIdeal.Facts),
    quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Merge (hMerge := hMerge)
    ∧ quiescent_MergeIdeal (hMergeIdeal := hMergeIdeal)
    ∧ quiescent_MergeRefIdeal (hMergeRefIdeal := hMergeRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Ffn_FfnIdeal
    ∧ algebraic_FfnIdeal_FfnRefIdeal (hFfnIdeal := hFfnIdeal) (hFfnRefIdeal := hFfnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Merge_MergeIdeal
    ∧ algebraic_MergeIdeal_MergeRefIdeal (hMergeIdeal := hMergeIdeal) (hMergeRefIdeal := hMergeRefIdeal)
-- ==== FfnLast.lean ====
abbrev S16x2064x1024 : Shape := ⟨3, ![16, 2064, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S16x2048x1024 : Shape := ⟨3, ![16, 2048, 1024]⟩
abbrev S1x1024x1024 : Shape := ⟨3, ![1, 1024, 1024]⟩
abbrev S1024x2816 : Shape := ⟨2, ![1024, 2816]⟩
abbrev S2816x1024 : Shape := ⟨2, ![2816, 1024]⟩
abbrev S2x1024x256 : Shape := ⟨3, ![2, 1024, 256]⟩
abbrev S2x256x1024 : Shape := ⟨3, ![2, 256, 1024]⟩
abbrev S3x2 : Shape := ⟨2, ![3, 2]⟩
abbrev S1024x1024 : Shape := ⟨2, ![1024, 1024]⟩
abbrev S1024x1 : Shape := ⟨2, ![1024, 1]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2064x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S2x1024x256, .f32⟩
  | .local _ .vmem, ⟨10, _⟩ => ⟨S2x1024x256, .f32⟩
  | .local _ .vmem, ⟨11, _⟩ => ⟨S2x256x1024, .f32⟩
  | .local _ .vmem, ⟨12, _⟩ => ⟨S1024x1024, .bf16⟩
  | .local _ .vmem, ⟨13, _⟩ => ⟨S1024x1024, .f32⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c2_i32 : BitVec 32 := 2#32
  let v1 : BitVec 32 := Scalar.addi c2_i32 v0
  let c8_i32 : BitVec 32 := 8#32
  let v2 : BitVec 32 := Scalar.muli c8_i32 v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnLastRefIdeal.lean ====
abbrev S16x2064x1024 : Shape := ⟨3, ![16, 2064, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2064x2816 : Shape := ⟨3, ![16, 2064, 2816]⟩
abbrev S16x2048x1024 : Shape := ⟨3, ![16, 2048, 1024]⟩
abbrev S16x2048 : Shape := ⟨2, ![16, 2048]⟩
abbrev S16x2048x1 : Shape := ⟨3, ![16, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16x2064x1024, .f32⟩
  | .hbm, ⟨9, _⟩ => ⟨S_, .f32⟩
  | .hbm, ⟨10, _⟩ => ⟨S16x2064, .f32⟩
  | .hbm, ⟨11, _⟩ => ⟨S16x2064x1, .f32⟩
  | .hbm, ⟨12, _⟩ => ⟨S_, .f32⟩
  | .hbm, ⟨13, _⟩ => ⟨S16x2064x1, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S16x2064x1, .f32⟩
  | .hbm, ⟨19, _⟩ => ⟨S16x2064x1024, .f32⟩
  | .hbm, ⟨20, _⟩ => ⟨S16x2064x1024, .f32⟩
  | .hbm, ⟨21, _⟩ => ⟨S1x1x1024, .f32⟩
  | .hbm, ⟨22, _⟩ => ⟨S16x2064x1024, .f32⟩
  | .hbm, ⟨23, _⟩ => ⟨S16x2064x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16x2064x2816, .f32⟩
  | .hbm, ⟨31, _⟩ => ⟨S16x2064x2816, .f32⟩
  | .hbm, ⟨32, _⟩ => ⟨S16x2064x2816, .f32⟩
  | .hbm, ⟨33, _⟩ => ⟨S_, .f32⟩
  | .hbm, ⟨34, _⟩ => ⟨S16x2064x2816, .f32⟩
  | .hbm, ⟨35, _⟩ => ⟨S16x2064x2816, .f32⟩
  | .hbm, ⟨36, _⟩ => ⟨S_, .f32⟩
  | .hbm, ⟨37, _⟩ => ⟨S16x2064x2816, .f32⟩
  | .hbm, ⟨38, _⟩ => ⟨S16x2064x2816, .f32⟩
  | .hbm, ⟨39, _⟩ => ⟨S16x2064x2816, .f32⟩
  | .hbm, ⟨40, _⟩ => ⟨S16x2064x2816, .f32⟩
  | .hbm, ⟨41, _⟩ => ⟨S16x2064x2816, .f32⟩
  | .hbm, ⟨42, _⟩ => ⟨S16x2064x1024, .f32⟩
  | .hbm, ⟨43, _⟩ => ⟨S_, .f32⟩
  | .hbm, ⟨44, _⟩ => ⟨S16x2064x1024, .f32⟩
  | .hbm, ⟨45, _⟩ => ⟨S16x2064x1024, .f32⟩
  | .hbm, ⟨46, _⟩ => ⟨S16x2064x1024, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S16x2048x1, .f32⟩
  | .hbm, ⟨59, _⟩ => ⟨S16x2048x1024, .f32⟩
  | .hbm, ⟨60, _⟩ => ⟨S16x2048x1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Ffn.lean ====
abbrev S16x2064x1024 : Shape := ⟨3, ![16, 2064, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S33024x1024 : Shape := ⟨2, ![33024, 1024]⟩
abbrev S1x1024 : Shape := ⟨2, ![1, 1024]⟩
abbrev S1024 : Shape := ⟨1, ![1024]⟩
abbrev S768x1024 : Shape := ⟨2, ![768, 1024]⟩
abbrev S1024x2816 : Shape := ⟨2, ![1024, 2816]⟩
abbrev S2816x1024 : Shape := ⟨2, ![2816, 1024]⟩
abbrev S2x1024x256 : Shape := ⟨3, ![2, 1024, 256]⟩
abbrev S2x256x1024 : Shape := ⟨3, ![2, 256, 1024]⟩
abbrev S3x2 : Shape := ⟨2, ![3, 2]⟩
abbrev S768 : Shape := ⟨1, ![768]⟩
abbrev S768x1 : Shape := ⟨2, ![768, 1]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S768x256 : Shape := ⟨2, ![768, 256]⟩

abbrev nBuf : Space → Nat
  | .hbm => 10
  | .vmem => 13
  | .smem => 0
  | _ => 0

abbrev bufTy : (tb : Table) → Fin (tcTables nBuf tb) → BufTy
  | .hbm, ⟨0, _⟩ => ⟨S16x2064x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S33024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S33024x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .f32⟩
  | .local _ .vmem, ⟨4, _⟩ => ⟨S768x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S2x1024x256, .f32⟩
  | .local _ .vmem, ⟨9, _⟩ => ⟨S2x1024x256, .f32⟩
  | .local _ .vmem, ⟨10, _⟩ => ⟨S2x256x1024, .f32⟩
  | .local _ .vmem, ⟨11, _⟩ => ⟨S768x1024, .bf16⟩
  | .local _ .vmem, ⟨12, _⟩ => ⟨S768x1024, .f32⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnRefIdeal.lean ====
abbrev S16x2064x1024 : Shape := ⟨3, ![16, 2064, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2064x2816 : Shape := ⟨3, ![16, 2064, 2816]⟩
abbrev S33024x1024 : Shape := ⟨2, ![33024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16x2064x1024, .f32⟩
  | .hbm, ⟨8, _⟩ => ⟨S_, .f32⟩
  | .hbm, ⟨9, _⟩ => ⟨S16x2064, .f32⟩
  | .hbm, ⟨10, _⟩ => ⟨S16x2064x1, .f32⟩
  | .hbm, ⟨11, _⟩ => ⟨S_, .f32⟩
  | .hbm, ⟨12, _⟩ => ⟨S16x2064x1, .f32⟩
  | .hbm, ⟨13, _⟩ => ⟨S16x2064x1, .f32⟩
  | .hbm, ⟨14, _⟩ => ⟨S_, .f32⟩
  | .hbm, ⟨15, _⟩ => ⟨S16x2064x1, .f32⟩
  | .hbm, ⟨16, _⟩ => ⟨S16x2064x1, .f32⟩
  | .hbm, ⟨17, _⟩ => ⟨S16x2064x1, .f32⟩
  | .hbm, ⟨18, _⟩ => ⟨S16x2064x1024, .f32⟩
  | .hbm, ⟨19, _⟩ => ⟨S16x2064x1024, .f32⟩
  | .hbm, ⟨20, _⟩ => ⟨S1x1x1024, .f32⟩
  | .hbm, ⟨21, _⟩ => ⟨S16x2064x1024, .f32⟩
  | .hbm, ⟨22, _⟩ => ⟨S16x2064x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16x2064x2816, .f32⟩
  | .hbm, ⟨30, _⟩ => ⟨S16x2064x2816, .f32⟩
  | .hbm, ⟨31, _⟩ => ⟨S16x2064x2816, .f32⟩
  | .hbm, ⟨32, _⟩ => ⟨S_, .f32⟩
  | .hbm, ⟨33, _⟩ => ⟨S16x2064x2816, .f32⟩
  | .hbm, ⟨34, _⟩ => ⟨S16x2064x2816, .f32⟩
  | .hbm, ⟨35, _⟩ => ⟨S_, .f32⟩
  | .hbm, ⟨36, _⟩ => ⟨S16x2064x2816, .f32⟩
  | .hbm, ⟨37, _⟩ => ⟨S16x2064x2816, .f32⟩
  | .hbm, ⟨38, _⟩ => ⟨S16x2064x2816, .f32⟩
  | .hbm, ⟨39, _⟩ => ⟨S16x2064x2816, .f32⟩
  | .hbm, ⟨40, _⟩ => ⟨S16x2064x2816, .f32⟩
  | .hbm, ⟨41, _⟩ => ⟨S16x2064x1024, .f32⟩
  | .hbm, ⟨42, _⟩ => ⟨S_, .f32⟩
  | .hbm, ⟨43, _⟩ => ⟨S16x2064x1024, .f32⟩
  | .hbm, ⟨44, _⟩ => ⟨S16x2064x1024, .f32⟩
  | .hbm, ⟨45, _⟩ => ⟨S16x2064x1024, .f32⟩
  | .hbm, ⟨46, _⟩ => ⟨S33024x1024, .f32⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== FfnFirst.lean ====
abbrev S16x2048x1024 : Shape := ⟨3, ![16, 2048, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S16x2064x1024 : Shape := ⟨3, ![16, 2064, 1024]⟩
abbrev S1x688x1024 : Shape := ⟨3, ![1, 688, 1024]⟩
abbrev S1024x2816 : Shape := ⟨2, ![1024, 2816]⟩
abbrev S2816x1024 : Shape := ⟨2, ![2816, 1024]⟩
abbrev S2x1024x256 : Shape := ⟨3, ![2, 1024, 256]⟩
abbrev S2x256x1024 : Shape := ⟨3, ![2, 256, 1024]⟩
abbrev S3x2 : Shape := ⟨2, ![3, 2]⟩
abbrev S688x1024 : Shape := ⟨2, ![688, 1024]⟩
abbrev S1x672x1024 : Shape := ⟨3, ![1, 672, 1024]⟩
abbrev S672x1024 : Shape := ⟨2, ![672, 1024]⟩
abbrev S688 : Shape := ⟨1, ![688]⟩
abbrev S688x1 : Shape := ⟨2, ![688, 1]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S688x256 : Shape := ⟨2, ![688, 256]⟩

abbrev nBuf : Space → Nat
  | .hbm => 10
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S16x2064x1024, .f32⟩
  | .local _ .vmem, ⟨0, _⟩ => ⟨S1x688x1024, .f32⟩
  | .local _ .vmem, ⟨1, _⟩ => ⟨S1x688x1024, .f32⟩
  | .local _ .vmem, ⟨2, _⟩ => ⟨S16x1024, .f32⟩
  | .local _ .vmem, ⟨3, _⟩ => ⟨S1x1024, .f32⟩
  | .local _ .vmem, ⟨4, _⟩ => ⟨S1x688x1024, .f32⟩
  | .local _ .vmem, ⟨5, _⟩ => ⟨S1x688x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S2x1024x256, .f32⟩
  | .local _ .vmem, ⟨10, _⟩ => ⟨S2x1024x256, .f32⟩
  | .local _ .vmem, ⟨11, _⟩ => ⟨S2x256x1024, .f32⟩
  | .local _ .vmem, ⟨12, _⟩ => ⟨S688x1024, .f32⟩
  | .local _ .vmem, ⟨13, _⟩ => ⟨S688x1024, .bf16⟩
  | .local _ .vmem, ⟨14, _⟩ => ⟨S688x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c86_i32 : BitVec 32 := 86#32
  let v0 : BitVec 32 := Scalar.muli arg1 c86_i32
  let c2_i32 : BitVec 32 := 2#32
  let v1 : BitVec 32 := Scalar.subi v0 c2_i32
  let c0_i32 : BitVec 32 := 0#32
  let v2 : BitVec 32 := Scalar.maxsi v1 c0_i32
  let c8_i32 : BitVec 32 := 8#32
  let v3 : BitVec 32 := Scalar.muli c8_i32 v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnFirstRefIdeal.lean ====
abbrev S16x2048x1024 : Shape := ⟨3, ![16, 2048, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x16x1024 : Shape := ⟨3, ![1, 16, 1024]⟩
abbrev S16x16x1024 : Shape := ⟨3, ![16, 16, 1024]⟩
abbrev S16x2064x1024 : Shape := ⟨3, ![16, 2064, 1024]⟩
abbrev S1x1024 : Shape := ⟨2, ![1, 1024]⟩
abbrev S1024 : Shape := ⟨1, ![1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2064x2816 : Shape := ⟨3, ![16, 2064, 2816]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x16x1024, .f32⟩
  | .hbm, ⟨7, _⟩ => ⟨S16x16x1024, .f32⟩
  | .hbm, ⟨8, _⟩ => ⟨S16x2064x1024, .f32⟩
  | .hbm, ⟨9, _⟩ => ⟨S1x1024, .f32⟩
  | .hbm, ⟨10, _⟩ => ⟨S1024, .f32⟩
  | .hbm, ⟨11, _⟩ => ⟨S16x2064x1024, .f32⟩
  | .hbm, ⟨12, _⟩ => ⟨S_, .f32⟩
  | .hbm, ⟨13, _⟩ => ⟨S16x2064, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S_, .f32⟩
  | .hbm, ⟨19, _⟩ => ⟨S16x2064x1, .f32⟩
  | .hbm, ⟨20, _⟩ => ⟨S16x2064x1, .f32⟩
  | .hbm, ⟨21, _⟩ => ⟨S16x2064x1, .f32⟩
  | .hbm, ⟨22, _⟩ => ⟨S16x2064x1024, .f32⟩
  | .hbm, ⟨23, _⟩ => ⟨S16x2064x1024, .f32⟩
  | .hbm, ⟨24, _⟩ => ⟨S1x1x1024, .f32⟩
  | .hbm, ⟨25, _⟩ => ⟨S16x2064x1024, .f32⟩
  | .hbm, ⟨26, _⟩ => ⟨S16x2064x1024, .f32⟩
  | .hbm, ⟨27, _⟩ => ⟨S1x1024x2816, .f32⟩
  | .hbm, ⟨28, _⟩ => ⟨S1024x2816, .f32⟩
  | .hbm, ⟨29, _⟩ => ⟨S1x1024x2816, .f32⟩
  | .hbm, ⟨30, _⟩ => ⟨S1024x2816, .f32⟩
  | .hbm, ⟨31, _⟩ => ⟨S1x2816x1024, .f32⟩
  | .hbm, ⟨32, _⟩ => ⟨S2816x1024, .f32⟩
  | .hbm, ⟨33, _⟩ => ⟨S16x2064x2816, .f32⟩
  | .hbm, ⟨34, _⟩ => ⟨S16x2064x2816, .f32⟩
  | .hbm, ⟨35, _⟩ => ⟨S16x2064x2816, .f32⟩
  | .hbm, ⟨36, _⟩ => ⟨S_, .f32⟩
  | .hbm, ⟨37, _⟩ => ⟨S16x2064x2816, .f32⟩
  | .hbm, ⟨38, _⟩ => ⟨S16x2064x2816, .f32⟩
  | .hbm, ⟨39, _⟩ => ⟨S_, .f32⟩
  | .hbm, ⟨40, _⟩ => ⟨S16x2064x2816, .f32⟩
  | .hbm, ⟨41, _⟩ => ⟨S16x2064x2816, .f32⟩
  | .hbm, ⟨42, _⟩ => ⟨S16x2064x2816, .f32⟩
  | .hbm, ⟨43, _⟩ => ⟨S16x2064x2816, .f32⟩
  | .hbm, ⟨44, _⟩ => ⟨S16x2064x2816, .f32⟩
  | .hbm, ⟨45, _⟩ => ⟨S16x2064x1024, .f32⟩
  | .hbm, ⟨46, _⟩ => ⟨S_, .f32⟩
  | .hbm, ⟨47, _⟩ => ⟨S16x2064x1024, .f32⟩
  | .hbm, ⟨48, _⟩ => ⟨S16x2064x1024, .f32⟩
  | .hbm, ⟨49, _⟩ => ⟨S16x2064x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Merge.lean ====
abbrev S16x2064x1024 : Shape := ⟨3, ![16, 2064, 1024]⟩
abbrev S16x2064x512 : Shape := ⟨3, ![16, 2064, 512]⟩
abbrev S2x1024 : Shape := ⟨2, ![2, 1024]⟩
abbrev S2x1024x4104 : Shape := ⟨3, ![2, 1024, 4104]⟩
abbrev S2x2048 : Shape := ⟨2, ![2, 2048]⟩
abbrev S2x512x1024 : Shape := ⟨3, ![2, 512, 1024]⟩
abbrev S2x1024x1024 : Shape := ⟨3, ![2, 1024, 1024]⟩
abbrev S1x1024x4104 : Shape := ⟨3, ![1, 1024, 4104]⟩
abbrev S1024x4104 : Shape := ⟨2, ![1024, 4104]⟩
abbrev S2064x16x512 : Shape := ⟨3, ![2064, 16, 512]⟩
abbrev S2064x8192 : Shape := ⟨2, ![2064, 8192]⟩
abbrev S1x1024 : Shape := ⟨2, ![1, 1024]⟩
abbrev S1024 : Shape := ⟨1, ![1024]⟩
abbrev S1024x1024 : Shape := ⟨2, ![1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1x688x1024 : Shape := ⟨3, ![1, 688, 1024]⟩
abbrev S688x512 : Shape := ⟨2, ![688, 512]⟩
abbrev S1x688x512 : Shape := ⟨3, ![1, 688, 512]⟩
abbrev S688x1024 : Shape := ⟨2, ![688, 1024]⟩
abbrev S688 : Shape := ⟨1, ![688]⟩
abbrev S688x1 : Shape := ⟨2, ![688, 1]⟩

abbrev nBuf : Space → Nat
  | .hbm => 38
  | .vmem => 17
  | .smem => 0
  | _ => 0

abbrev bufTy : (tb : Table) → Fin (tcTables nBuf tb) → BufTy
  | .hbm, ⟨0, _⟩ => ⟨S16x2064x1024, .f32⟩
  | .hbm, ⟨1, _⟩ => ⟨S16x2064x512, .f32⟩
  | .hbm, ⟨2, _⟩ => ⟨S16x2064x512, .f32⟩
  | .hbm, ⟨3, _⟩ => ⟨S2x1024, .f32⟩
  | .hbm, ⟨4, _⟩ => ⟨S2x1024x4104, .f32⟩
  | .hbm, ⟨5, _⟩ => ⟨S2x2048, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1x1024x4104, .f32⟩
  | .hbm, ⟨10, _⟩ => ⟨S1024x4104, .f32⟩
  | .hbm, ⟨11, _⟩ => ⟨S16x2064x512, .bf16⟩
  | .hbm, ⟨12, _⟩ => ⟨S2064x16x512, .bf16⟩
  | .hbm, ⟨13, _⟩ => ⟨S2064x8192, .bf16⟩
  | .hbm, ⟨14, _⟩ => ⟨S16x2064x512, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x512x1024, .f32⟩
  | .hbm, ⟨29, _⟩ => ⟨S512x1024, .f32⟩
  | .hbm, ⟨30, _⟩ => ⟨S512x1024, .bf16⟩
  | .hbm, ⟨31, _⟩ => ⟨S1x512x1024, .f32⟩
  | .hbm, ⟨32, _⟩ => ⟨S512x1024, .f32⟩
  | .hbm, ⟨33, _⟩ => ⟨S512x1024, .bf16⟩
  | .hbm, ⟨34, _⟩ => ⟨S1x1024x1024, .f32⟩
  | .hbm, ⟨35, _⟩ => ⟨S1024x1024, .f32⟩
  | .hbm, ⟨36, _⟩ => ⟨S1024x1024, .bf16⟩
  | .hbm, ⟨37, _⟩ => ⟨S16x2064x1024, .f32⟩
  | .local _ .vmem, ⟨0, _⟩ => ⟨S1x688x1024, .f32⟩
  | .local _ .vmem, ⟨1, _⟩ => ⟨S1x688x1024, .f32⟩
  | .local _ .vmem, ⟨2, _⟩ => ⟨S688x512, .bf16⟩
  | .local _ .vmem, ⟨3, _⟩ => ⟨S688x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x688x1024, .f32⟩
  | .local _ .vmem, ⟨15, _⟩ => ⟨S1x688x1024, .f32⟩
  | .local _ .vmem, ⟨16, _⟩ => ⟨S688x1024, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16x2064x1024 : Shape := ⟨3, ![16, 2064, 1024]⟩
abbrev S16x2064x512 : Shape := ⟨3, ![16, 2064, 512]⟩
abbrev S2x1024 : Shape := ⟨2, ![2, 1024]⟩
abbrev S2x1024x4104 : Shape := ⟨3, ![2, 1024, 4104]⟩
abbrev S2x2048 : Shape := ⟨2, ![2, 2048]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S1x1024x4104 : Shape := ⟨3, ![1, 1024, 4104]⟩
abbrev S1024x4104 : Shape := ⟨2, ![1024, 4104]⟩
abbrev S16x2064x4104 : Shape := ⟨3, ![16, 2064, 4104]⟩
abbrev S16x2064x2048 : Shape := ⟨3, ![16, 2064, 2048]⟩
abbrev S1x2048 : Shape := ⟨2, ![1, 2048]⟩
abbrev S2048 : Shape := ⟨1, ![2048]⟩
abbrev S1x1x2048 : Shape := ⟨3, ![1, 1, 2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S16x2064x512, .f32⟩
  | .hbm, ⟨2, _⟩ => ⟨S16x2064x512, .f32⟩
  | .hbm, ⟨3, _⟩ => ⟨S2x1024, .f32⟩
  | .hbm, ⟨4, _⟩ => ⟨S2x1024x4104, .f32⟩
  | .hbm, ⟨5, _⟩ => ⟨S2x2048, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1x1024, .f32⟩
  | .hbm, ⟨10, _⟩ => ⟨S1024, .f32⟩
  | .hbm, ⟨11, _⟩ => ⟨S16x2064x1024, .f32⟩
  | .hbm, ⟨12, _⟩ => ⟨S_, .f32⟩
  | .hbm, ⟨13, _⟩ => ⟨S16x2064, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S_, .f32⟩
  | .hbm, ⟨19, _⟩ => ⟨S16x2064x1, .f32⟩
  | .hbm, ⟨20, _⟩ => ⟨S16x2064x1, .f32⟩
  | .hbm, ⟨21, _⟩ => ⟨S16x2064x1, .f32⟩
  | .hbm, ⟨22, _⟩ => ⟨S16x2064x1024, .f32⟩
  | .hbm, ⟨23, _⟩ => ⟨S16x2064x1024, .f32⟩
  | .hbm, ⟨24, _⟩ => ⟨S1x1x1024, .f32⟩
  | .hbm, ⟨25, _⟩ => ⟨S16x2064x1024, .f32⟩
  | .hbm, ⟨26, _⟩ => ⟨S16x2064x1024, .f32⟩
  | .hbm, ⟨27, _⟩ => ⟨S1x1024x4104, .f32⟩
  | .hbm, ⟨28, _⟩ => ⟨S1024x4104, .f32⟩
  | .hbm, ⟨29, _⟩ => ⟨S16x2064x4104, .f32⟩
  | .hbm, ⟨30, _⟩ => ⟨S16x2064x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S16x2064x2048, .f32⟩
  | .hbm, ⟨35, _⟩ => ⟨S16x2064x2048, .f32⟩
  | .hbm, ⟨36, _⟩ => ⟨S16x2064x2048, .f32⟩
  | .hbm, ⟨37, _⟩ => ⟨S16x2064x2048, .f32⟩
  | .hbm, ⟨38, _⟩ => ⟨S_, .f32⟩
  | .hbm, ⟨39, _⟩ => ⟨S16x2064x2048, .f32⟩
  | .hbm, ⟨40, _⟩ => ⟨S16x2064x2048, .f32⟩
  | .hbm, ⟨41, _⟩ => ⟨S_, .f32⟩
  | .hbm, ⟨42, _⟩ => ⟨S16x2064x2048, .f32⟩
  | .hbm, ⟨43, _⟩ => ⟨S16x2064x2048, .f32⟩
  | .hbm, ⟨44, _⟩ => ⟨S16x2064x1024, .f32⟩
  | .hbm, ⟨45, _⟩ => ⟨S1x512x1024, .f32⟩
  | .hbm, ⟨46, _⟩ => ⟨S512x1024, .f32⟩
  | .hbm, ⟨47, _⟩ => ⟨S16x2064x1024, .f32⟩
  | .hbm, ⟨48, _⟩ => ⟨S16x2064x1024, .f32⟩
  | .hbm, ⟨49, _⟩ => ⟨S16x2064x1024, .f32⟩
  | .hbm, ⟨50, _⟩ => ⟨S1x512x1024, .f32⟩
  | .hbm, ⟨51, _⟩ => ⟨S512x1024, .f32⟩
  | .hbm, ⟨52, _⟩ => ⟨S16x2064x1024, .f32⟩
  | .hbm, ⟨53, _⟩ => ⟨S16x2064x1024, .f32⟩
  | .hbm, ⟨54, _⟩ => ⟨S16x2064x1024, .f32⟩
  | .hbm, ⟨55, _⟩ => ⟨S1x1024x1024, .f32⟩
  | .hbm, ⟨56, _⟩ => ⟨S1024x1024, .f32⟩
  | .hbm, ⟨57, _⟩ => ⟨S16x2064x1024, .f32⟩
  | .hbm, ⟨58, _⟩ => ⟨S16x2064x1024, .f32⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.FfnLastRuns.lean ====
/- What the runs of `FfnLast`'s body share: the arrays as the launch finds them, the windows' blocks, the branch conditions in closed
   form over the grid points, and the memrefs of the windows and of the scratch. -/
module

public import proofs.«01_k».proof.Proof.Gen.FfnLast.Launch
public import proofs.«01_k».proof.Proof.Gen.FfnLast.Skeleton
public import proofs.«01_k».proof.Proof.Gen.FfnLast.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.FfnLastValue

open Cert.FfnLast Cert.FfnLast.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## The kernel body on any staging memrefs: a subtype the run finds -/

/-- Each window's current staging memref at point `t`, spelled as the pipeline passes it (`bodyAt0`), and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S2x1024x256 .f32 := Memref.whole cc0_scratch3
abbrev scM0_4 : Memref sig .tc .vmem S2x1024x256 .f32 := Memref.whole cc0_scratch4
abbrev scM0_5 : Memref sig .tc .vmem S2x256x1024 .f32 := Memref.whole cc0_scratch5
abbrev scM0_6 : Memref sig .tc .vmem S1024x1024 .bf16 := Memref.whole cc0_scratch7
abbrev scM0_7 : Memref sig .tc .vmem S1024x1024 .f32 := Memref.whole cc0_scratch8
/-- The scratch `arg9` the kernel carries between points, as a view: what it holds is stated through it. -/
abbrev VS0_0 : View sig .tc .vmem S1024x2816 .bf16 := scM0_0.view
/-- The scratch `arg10` the kernel carries between points, as a view: what it holds is stated through it. -/
abbrev VS0_1 : View sig .tc .vmem S1024x2816 .bf16 := scM0_1.view
/-- The scratch `arg11` the kernel carries between points, as a view: what it holds is stated through it. -/
abbrev VS0_2 : View sig .tc .vmem S2816x1024 .bf16 := scM0_2.view
/-- The operands left in HBM that the body copies into scratch itself, whole. -/
abbrev hbM0_0 : Memref sig .tc .hbm S2x1024x2816 .f32 := Memref.whole main_arg2
abbrev hbM0_1 : Memref sig .tc .hbm S2x1024x2816 .f32 := Memref.whole main_arg3
abbrev hbM0_2 : Memref sig .tc .hbm S2x2816x1024 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3) ∗ hbPt0 c hbM0_2 (V m c main_arg4)) := by
  rw [BI.bigSep_eq_bigSepL_of_eq [main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg2) ∗ hbPt0 c hbM0_1 (V m c main_arg3) ∗ hbPt0 c hbM0_2 (V m c main_arg4))) := by
  rw [Pipeline.ΦD_eq, scopedRest0_eq, ownSems00_eq, hbmPts0_eq]; simp only [scM0_0, scM0_1, scM0_2, scM0_3, scM0_4, scM0_5, scM0_6, scM0_7, owns_whole]; try rfl

end Cert.Proof.FfnLastValue

end
-- ==== Proof.FfnRead.lean ====
/-
  Reading buffers that a body fills through two staging slots. A weight is copied chunk by chunk into one of two slots of
  a staging buffer, read back, converted and stored into the chunk's columns (or rows) of a resident buffer. Here: what a
  read of a slot gives, what a chunk of the copied array is at an index, and that a buffer whose chunks have all been
  stored reads as the one array they come from.
-/
module

public import Idealize.ShloMosaic.Lib.Pipeline.Value
public import Idealize.ShloMosaic.Lib.PointwiseCore
public import Idealize.ShloMosaic.Lib.ValueLayout

@[expose] public section

noncomputable section

open Idealize.ShloMosaic Idealize.ShloMosaic.TcCoe Idealize.SL.Sem

namespace Cert.Proof.FfnRead

variable {sig : RefSig} {κ : Kind} {cs : Space} {s s' : Shape} {e : EltTy} {Val : EltTy → Type}

/-- A slot read right after it was filled. -/
theorem slot_hit (M : Memref sig κ cs s e) (r : Rect s) (hr : ∀ a, r.stride a = 1) (hq : r.shape.Squeezes s')
    (hc : r.shape.ShapeCasts s') (f : M.view.ty.Contents Val) (w : s'.Idx → Val e) :
    shapeCast s' (M.view.readAt Val r.toLoadRect (((M.slice r hr).squeeze s' hq).view.write Val f w Finset.univ)) hc = w :=
  (Memref.read_squeeze_slice M r hr hq hc _).symm.trans (View.read_write_univ (v := ((M.slice r hr).squeeze s' hq).view) f w)

/-- A slot's contents are not changed by filling another slot. -/
theorem slot_other (M : Memref sig κ cs s e) (r r' : Rect s) (hr' : ∀ a, r'.stride a = 1) (hq' : r'.shape.Squeezes s')
    (hd : Disjoint r.set r'.set) (f : M.view.ty.Contents Val) (w : s'.Idx → Val e) :
    M.view.readAt Val r.toLoadRect (((M.slice r' hr').squeeze s' hq').view.write Val f w Finset.univ)
      = M.view.readAt Val r.toLoadRect f := by
  funext j
  rw [View.readAt_apply, View.readAt_apply, View.read_apply, View.read_apply, View.write_of_not_mem]
  intro hm
  have h1 : M.view.emb (r.toLoadRect.idx j) ∈ (M.view.slice r').set := by
    have : (((M.slice r' hr').squeeze s' hq').view.setOn Finset.univ) = (M.view.slice r').set :=
      View.set_reshape (v := M.view.slice r') _
    rw [← this]; exact hm
  rw [View.set_slice] at h1
  have h2 : r.toLoadRect.idx j ∈ r'.set := (Finset.mem_map' M.view.emb).mp h1
  exact Finset.disjoint_left.mp hd (r.toLoadRect.idx_mem j) h2

/-- Two slots of a staging buffer share no element. -/
theorem slots_disjoint {d : Fin 3 → ℕ} {off off' size size' : Fin 3 → ℕ} (inb : ∀ a, off a + size a ≤ d a)
    (inb' : ∀ a, off' a + size' a ≤ d a) (h : off 0 + size 0 ≤ off' 0 ∨ off' 0 + size' 0 ≤ off 0) :
    Disjoint (Rect.unit (s := ⟨3, d⟩) off size inb).set (Rect.unit (s := ⟨3, d⟩) off' size' inb').set := by
  rw [Finset.disjoint_left]
  intro y h1 h2
  have a := (Rect.mem_set_unit.mp h1) 0
  have b := (Rect.mem_set_unit.mp h2) 0
  rcases h with h | h <;> omega

/-- A slot read after it and then another slot were filled. -/
theorem slot_miss_hit (M : Memref sig κ cs s e) (r r' : Rect s) (hr : ∀ a, r.stride a = 1) (hr' : ∀ a, r'.stride a = 1)
    (hq : r.shape.Squeezes s') (hq' : r'.shape.Squeezes s') (hc : r.shape.ShapeCasts s') (hd : Disjoint r.set r'.set)
    (f : M.view.ty.Contents Val) (w w' : s'.Idx → Val e) :
    shapeCast s' (M.view.readAt Val r.toLoadRect (((M.slice r' hr').squeeze s' hq').view.write Val
      (((M.slice r hr).squeeze s' hq).view.write Val f w Finset.univ) w' Finset.univ)) hc = w := by
  rw [slot_other M r r' hr' hq' hd]
  exact slot_hit M r hr hq hc f w

/-- A chunk of one layer of a stacked array, at an index. -/
theorem layer_chunk {N R C A B : ℕ} (M : Memref sig κ cs ⟨3, ![N, R, C]⟩ e) {off size : Fin 3 → ℕ}
    (inb : ∀ a, off a + size a ≤ (⟨3, ![N, R, C]⟩ : Shape).size a) (hr : ∀ a, (Rect.unit (s := ⟨3, ![N, R, C]⟩) off size inb).stride a = 1)
    (hs : size = ![1, A, B])
    (hq : (Rect.unit (s := ⟨3, ![N, R, C]⟩) off size inb).shape.Squeezes ⟨2, ![A, B]⟩)
    (f : M.view.ty.Contents Val) (n : Fin N) (o p : ℕ) (hn : off 0 = n.val) (ho : off 1 = o) (hp : off 2 = p)
    (i : Fin A) (j : Fin B) (hi : o + i.val < R) (hj : p + j.val < C) :
    ((M.slice (Rect.unit (s := ⟨3, ![N, R, C]⟩) off size inb) hr).squeeze ⟨2, ![A, B]⟩ hq).view.read Val f (ix2 i j)
      = M.view.read Val f (ix3 n ⟨o + i.val, hi⟩ ⟨p + j.val, hj⟩) := by
  subst hs
  have hc : (Rect.unit (s := ⟨3, ![N, R, C]⟩) off ![1, A, B] inb).shape.ShapeCasts ⟨2, ![A, B]⟩ := hq.numel_eq
  rw [Memref.read_squeeze_slice M _ hr hq hc]
  refine (ValueIdx.shapeCast_1ab_ab_apply (a := A) (b := B) _ hc i j).trans ?_
  rw [View.readAt_apply]
  congr 1
  funext a
  match a with
  | ⟨0, _⟩ => exact Fin.ext (by show off 0 + 1 * 0 = n.val; omega)
  | ⟨1, _⟩ => exact Fin.ext (by show off 1 + 1 * i.val = o + i.val; omega)
  | ⟨2, _⟩ => exact Fin.ext (by show off 2 + 1 * j.val = p + j.val; omega)

/-- Columns of one layer of a stacked array. -/
theorem layer_cols {N R C B : ℕ} (M : Memref sig κ cs ⟨3, ![N, R, C]⟩ e) {off size : Fin 3 → ℕ}
    (inb : ∀ a, off a + size a ≤ (⟨3, ![N, R, C]⟩ : Shape).size a) (hr : ∀ a, (Rect.unit (s := ⟨3, ![N, R, C]⟩) off size inb).stride a = 1)
    (hq : (Rect.unit (s := ⟨3, ![N, R, C]⟩) off size inb).shape.Squeezes ⟨2, ![R, B]⟩)
    (f : M.view.ty.Contents Val) (n : Fin N) (p : ℕ) (h : p + B ≤ C)
    (hs : size = ![1, R, B]) (hn : off 0 = n.val) (ho : off 1 = 0) (hp : off 2 = p) :
    ((M.slice (Rect.unit (s := ⟨3, ![N, R, C]⟩) off size inb) hr).squeeze ⟨2, ![R, B]⟩ hq).view.read Val f
      = fun j => M.view.read Val f (ix3 n (j 0) ⟨p + (j 1).val, Nat.lt_of_lt_of_le (Nat.add_lt_add_left (j 1).isLt p) h⟩) := by
  funext j
  have hj : j = ix2 (j 0) (j 1) := by funext a; match a with | ⟨0, _⟩ => rfl | ⟨1, _⟩ => rfl
  have h0 := (j 0).isLt
  have h1 := (j 1).isLt
  refine (congrArg _ hj).trans ((layer_chunk M inb hr hs hq f n 0 p hn ho hp (j 0) (j 1) (by simpa using h0)
    (Nat.lt_of_lt_of_le (Nat.add_lt_add_left h1 p) h)).trans ?_)
  congr 1
  funext a
  match a with
  | ⟨0, _⟩ => rfl
  | ⟨1, _⟩ => exact Fin.ext (Nat.zero_add _)
  | ⟨2, _⟩ => rfl

/-- Rows of one layer of a stacked array. -/
theorem layer_rows {N R C B : ℕ} (M : Memref sig κ cs ⟨3, ![N, R, C]⟩ e) {off size : Fin 3 → ℕ}
    (inb : ∀ a, off a + size a ≤ (⟨3, ![N, R, C]⟩ : Shape).size a) (hr : ∀ a, (Rect.unit (s := ⟨3, ![N, R, C]⟩) off size inb).stride a = 1)
    (hq : (Rect.unit (s := ⟨3, ![N, R, C]⟩) off size inb).shape.Squeezes ⟨2, ![B, C]⟩)
    (f : M.view.ty.Contents Val) (n : Fin N) (p : ℕ) (h : p + B ≤ R)
    (hs : size = ![1, B, C]) (hn : off 0 = n.val) (ho : off 1 = p) (hp : off 2 = 0) :
    ((M.slice (Rect.unit (s := ⟨3, ![N, R, C]⟩) off size inb) hr).squeeze ⟨2, ![B, C]⟩ hq).view.read Val f
      = fun j => M.view.read Val f (ix3 n ⟨p + (j 0).val, Nat.lt_of_lt_of_le (Nat.add_lt_add_left (j 0).isLt p) h⟩ (j 1)) := by
  funext j
  have hj : j = ix2 (j 0) (j 1) := by funext a; match a with | ⟨0, _⟩ => rfl | ⟨1, _⟩ => rfl
  have h0 := (j 0).isLt
  have h1 := (j 1).isLt
  refine (congrArg _ hj).trans ((layer_chunk M inb hr hs hq f n p 0 hn ho hp (j 0) (j 1)
    (Nat.lt_of_lt_of_le (Nat.add_lt_add_left h0 p) h) (by simpa using h1)).trans ?_)
  congr 1
  funext a
  match a with
  | ⟨0, _⟩ => rfl
  | ⟨1, _⟩ => rfl
  | ⟨2, _⟩ => exact Fin.ext (Nat.zero_add _)

/-- A load of a whole block. -/
theorem load_whole {M : Memref sig κ cs s e} (hM : M.IsWhole) {off : Fin s.rank → ℕ}
    (inb : ∀ a, off a + s.size a ≤ s.size a) (x : s.Idx → Val e) (h : ∀ a, off a = 0) :
    M.view.readAt Val (Rect.unit off s.size inb).toLoadRect (hM.unread x) = x := by
  rw [View.readAt_eq_ld, hM.read_unread]
  exact View.ld_unit_zero (funext h) inb x

/-- A store of a whole block. -/
theorem store_whole (v : View sig κ cs s e) (f : v.ty.Contents Val) {off : Fin s.rank → ℕ}
    (inb : ∀ a, off a + s.size a ≤ s.size a) (w : s.Idx → Val e) (L : List (View.Piece Val s e)) (h : ∀ a, off a = 0)
    (z : s.Idx → Val e) (hz : w = z) :
    v.read Val (v.writes Val f (⟨Rect.unit off s.size inb, w⟩ :: L)) = z := by
  subst hz
  obtain rfl : off = fun _ => 0 := funext h
  funext y
  have hy : y = (Rect.unit (s := s) (fun _ => 0) s.size inb).emb y :=
    funext fun a => Fin.ext (by show (y a).val = 0 + 1 * (y a).val; omega)
  exact (congrArg _ hy).trans (View.read_writes_cons_emb v f (Rect.unit (s := s) (fun _ => 0) s.size inb) w L y)

/-! ## A resident buffer, filled chunk by chunk -/

/-- The buffer reads as `D` where coordinate `a` is below `n`. -/
def Filled (v : View sig κ cs s e) (f : v.ty.Contents Val) (L : List (View.Piece Val s e)) (D : s.Idx → Val e)
    (a : Fin s.rank) (n : ℕ) : Prop :=
  ∀ y : s.Idx, (y a).val < n → v.read Val (v.writes Val f L) y = D y

theorem filled_nil (v : View sig κ cs s e) (f : v.ty.Contents Val) (D : s.Idx → Val e) (a : Fin s.rank) :
    Filled v f [] D a 0 := fun y h => absurd h (Nat.not_lt_zero _)

/-- One more chunk. -/
theorem filled_cons {v : View sig κ cs s e} {f : v.ty.Contents Val} {L : List (View.Piece Val s e)} {D : s.Idx → Val e}
    {a : Fin s.rank} {n : ℕ} (n' : ℕ) {off size : Fin s.rank → ℕ} {inb : ∀ b, off b + size b ≤ s.size b}
    {w : (Rect.unit off size inb).shape.Idx → Val e} (hL : Filled v f L D a n)
    (hw : ∀ x, w x = D ((Rect.unit off size inb).emb x)) (hn : off a = n) (hn' : n + size a = n')
    (ho : ∀ b, b ≠ a → off b = 0 ∧ size b = s.size b) :
    Filled v f (⟨Rect.unit off size inb, w⟩ :: L) D a n' := by
  intro y hy
  by_cases hm : y ∈ (Rect.unit off size inb).set
  · obtain ⟨x, rfl⟩ := (Rect.unit off size inb).exists_idx_of_mem hm
    exact (View.read_writes_cons_emb v f _ _ L x).trans (hw x)
  · rw [View.writes_cons, View.read_slice_write_of_not_mem _ _ _ _ (by rwa [Rect.map_emb_univ])]
    refine hL y ?_
    by_contra hlt
    refine hm (Rect.mem_set_unit.mpr fun b => ?_)
    by_cases hb : b = a
    · subst hb; omega
    · obtain ⟨h1, h2⟩ := ho b hb
      have := (y b).isLt
      omega

/-- All chunks stored: the buffer reads as the array. -/
theorem filled_all {v : View sig κ cs s e} {f : v.ty.Contents Val} {L : List (View.Piece Val s e)} {D : s.Idx → Val e}
    {a : Fin s.rank} (h : Filled v f L D a (s.size a)) : v.read Val (v.writes Val f L) = D :=
  funext fun y => h y (y a).isLt

/-- A chunk read back right after it was stored. -/
theorem back [∀ e, Nonempty (Val e)] (v : View sig κ cs s e) (r : Rect s) (w : r.shape.Idx → Val e)
    (L : List (View.Piece Val s e)) (z : r.shape.Idx → Val e) (h : w = z) : v.readCov (⟨r, w⟩ :: L) r.toLoadRect = z :=
  (View.readCov_cons_toLoadRect v r w L).trans h

end Cert.Proof.FfnRead
-- ==== Proof.FfnLastSpec.lean ====
module

public import proofs.«01_k».proof.Proof.FfnLastRuns
public import proofs.«01_k».proof.Proof.FfnRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnLastValue

open Cert.FfnLast Cert.FfnLast.Gen Cert.Proof.FfnRead

variable {F : FTy → Type} [FloatOps F]

/-! What one call of the body computes, as functions of the block and the weights. -/

/-- Columns `256 q … 256 q + 255`. -/
def cols (W : FVec F S1024x2816 .bf16) (q : ℕ) (h : 256 * q + 256 ≤ 2816) : FVec F S1024x256 .bf16 :=
  fun j => W (ix2 (j 0) ⟨256 * q + (j 1).val, Nat.lt_of_lt_of_le (Nat.add_lt_add_left (j 1).isLt _) h⟩)

/-- Rows `256 q … 256 q + 255`. -/
def rows (W : FVec F S2816x1024 .bf16) (q : ℕ) (h : 256 * q + 256 ≤ 2816) : FVec F S256x1024 .bf16 :=
  fun j => W (ix2 ⟨256 * q + (j 0).val, Nat.lt_of_lt_of_le (Nat.add_lt_add_left (j 0).isLt _) h⟩ (j 1))

/-- A layer's weight with the hidden features along columns, converted. -/
def wcol (f : FVec F S2x1024x2816 .f32) : FVec F S1024x2816 .bf16 :=
  truncf .bf16 (fun j => f (ix3 (1 : Fin 2) (j 0) (j 1)) : FVec F S1024x2816 .f32) bitsLt_bf16_f32

/-- A layer's weight with the hidden features along rows, converted. -/
def wrow (f : FVec F S2x2816x1024 .f32) : FVec F S2816x1024 .bf16 :=
  truncf .bf16 (fun j => f (ix3 (1 : Fin 2) (j 0) (j 1)) : FVec F S2816x1024 .f32) bitsLt_bf16_f32

/-- A chunk of hidden features applied: gated, and multiplied back. -/
def chunk (n : FVec F S1024x1024 .bf16) (g : FVec F S1024x256 .bf16) (n' : FVec F S1024x1024 .bf16) (u : FVec F S1024x256 .bf16)
    (w : FVec F S256x1024 .bf16) : FVec F S1024x1024 .f32 :=
  matmul dot_S1024x256_S256x1024_S1024x1024_1_0_0_1_n_n none (truncf .bf16 (mulf (mulf
      (matmul dot_S1024x1024_S1024x256_S1024x256_1_0_0_1_n_n none n g (constant S1024x256 .f32 0x00000000#32))
      (logistic (matmul dot_S1024x1024_S1024x256_S1024x256_1_0_0_1_n_n none n g (constant S1024x256 .f32 0x00000000#32))))
      (matmul dot_S1024x1024_S1024x256_S1024x256_1_0_0_1_n_n none n' u (constant S1024x256 .f32 0x00000000#32))) bitsLt_bf16_f32)
    w (constant S1024x1024 .f32 0x00000000#32)

/-- The sum over the first `q + 1` chunks. -/
def acc (n : FVec F S1024x1024 .bf16) (W0 W1 : FVec F S1024x2816 .bf16) (W2 : FVec F S2816x1024 .bf16) :
    (q : ℕ) → 256 * q + 256 ≤ 2816 → FVec F S1024x1024 .f32
  | 0, h => chunk n (cols W0 0 h) n (cols W1 0 h) (rows W2 0 h)
  | q + 1, h => addf (acc n W0 W1 W2 q (by omega)) (chunk n (cols W0 (q + 1) h) n (cols W1 (q + 1) h) (rows W2 (q + 1) h))

theorem first_congr {n n' N : FVec F S1024x1024 .bf16} {g u : FVec F S1024x256 .bf16} {w : FVec F S256x1024 .bf16}
    {W0 W1 : FVec F S1024x2816 .bf16} {W2 : FVec F S2816x1024 .bf16} {h : 256 * 0 + 256 ≤ 2816}
    (hn : n = N) (hn' : n' = N) (hg : g = cols W0 0 h) (hu : u = cols W1 0 h) (hw : w = rows W2 0 h) :
    chunk n g n' u w = acc N W0 W1 W2 0 h := by subst hn hn' hg hu hw; rfl

theorem step_congr {n n' N : FVec F S1024x1024 .bf16} {g u : FVec F S1024x256 .bf16} {w : FVec F S256x1024 .bf16}
    {W0 W1 : FVec F S1024x2816 .bf16} {W2 : FVec F S2816x1024 .bf16} {q : ℕ} {h : 256 * (q + 1) + 256 ≤ 2816}
    {a : FVec F S1024x1024 .f32} (ha : a = acc N W0 W1 W2 q (by omega))
    (hn : n = N) (hn' : n' = N) (hg : g = cols W0 (q + 1) h) (hu : u = cols W1 (q + 1) h) (hw : w = rows W2 (q + 1) h) :
    addf a (chunk n g n' u w) = acc N W0 W1 W2 (q + 1) h := by subst hn hn' hg hu hw ha; rfl

theorem conv_cols {v : FVec F S1x1024x256 .f32} {w : FVec F S1024x256 .f32} {f : FVec F S2x1024x2816 .f32} {q : ℕ}
    {h : 256 * q + 256 ≤ 2816} (hv : shapeCast S1024x256 v shapeCasts_S1x1024x256_S1024x256 = w)
    (hw : w = fun j => f (ix3 (1 : Fin 2) (j 0) ⟨256 * q + (j 1).val, Nat.lt_of_lt_of_le (Nat.add_lt_add_left (j 1).isLt _) h⟩)) :
    truncf .bf16 (shapeCast S1024x256 v shapeCasts_S1x1024x256_S1024x256) bitsLt_bf16_f32 = cols (wcol f) q h := by
  rw [hv, hw]; rfl

theorem conv_rows {v : FVec F S1x256x1024 .f32} {w : FVec F S256x1024 .f32} {f : FVec F S2x2816x1024 .f32} {q : ℕ}
    {h : 256 * q + 256 ≤ 2816} (hv : shapeCast S256x1024 v shapeCasts_S1x256x1024_S256x1024 = w)
    (hw : w = fun j => f (ix3 (1 : Fin 2) ⟨256 * q + (j 0).val, Nat.lt_of_lt_of_le (Nat.add_lt_add_left (j 0).isLt _) h⟩ (j 1))) :
    truncf .bf16 (shapeCast S256x1024 v shapeCasts_S1x256x1024_S256x1024) bitsLt_bf16_f32 = rows (wrow f) q h := by
  rw [hv, hw]; rfl

/-- Where a chunk's columns lie. -/
theorem cols_emb (W : FVec F S1024x2816 .bf16) (q : ℕ) (h : 256 * q + 256 ≤ 2816) {off size : Fin 2 → ℕ}
    (inb : ∀ a, off a + size a ≤ S1024x2816.size a) (hs : size = ![1024, 256]) (h0 : off 0 = 0) (h1 : off 1 = 256 * q) (x : (Rect.unit (s := S1024x2816) off size inb).shape.Idx)
    (w : (Rect.unit (s := S1024x2816) off size inb).shape.Idx → F .bf16) (hw : ∀ j : S1024x256.Idx, w (fun a => ⟨(j a).val, by subst hs; exact (j a).isLt⟩) = cols W q h j) :
    w x = W ((Rect.unit (s := S1024x2816) off size inb).emb x) := by
  subst hs
  refine (hw x).trans (congrArg W ?_)
  funext a
  match a with
  | ⟨0, _⟩ => exact Fin.ext (by show (x 0).val = off 0 + 1 * (x 0).val; omega)
  | ⟨1, _⟩ => exact Fin.ext (by show 256 * q + (x 1).val = off 1 + 1 * (x 1).val; omega)

/-- Where a chunk's rows lie. -/
theorem rows_emb (W : FVec F S2816x1024 .bf16) (q : ℕ) (h : 256 * q + 256 ≤ 2816) {off size : Fin 2 → ℕ}
    (inb : ∀ a, off a + size a ≤ S2816x1024.size a) (hs : size = ![256, 1024]) (h0 : off 0 = 256 * q) (h1 : off 1 = 0) (x : (Rect.unit (s := S2816x1024) off size inb).shape.Idx)
    (w : (Rect.unit (s := S2816x1024) off size inb).shape.Idx → F .bf16) (hw : ∀ j : S256x1024.Idx, w (fun a => ⟨(j a).val, by subst hs; exact (j a).isLt⟩) = rows W q h j) :
    w x = W ((Rect.unit (s := S2816x1024) off size inb).emb x) := by
  subst hs
  refine (hw x).trans (congrArg W ?_)
  funext a
  match a with
  | ⟨0, _⟩ => exact Fin.ext (by show 256 * q + (x 0).val = off 0 + 1 * (x 0).val; omega)
  | ⟨1, _⟩ => exact Fin.ext (by show (x 1).val = off 1 + 1 * (x 1).val; omega)

/-- A load of a chunk's columns from the resident weight. -/
theorem ld_cols {M : Memref sig .tc .vmem S1024x2816 .bf16} (hM : M.IsWhole) (W : FVec F S1024x2816 .bf16) (q : ℕ)
    (h : 256 * q + 256 ≤ 2816) {off : Fin 2 → ℕ} (inb : ∀ a, off a + S1024x256.size a ≤ S1024x2816.size a) (h0 : off 0 = 0) (h1 : off 1 = 256 * q) :
    M.view.readAt (Elt F) (Rect.unit (s := S1024x2816) off S1024x256.size inb).toLoadRect (hM.unread W) = cols W q h := by
  rw [View.readAt_eq_ld, hM.read_unread]
  funext x
  exact (cols_emb W q h inb rfl h0 h1 x (cols W q h) (fun _ => rfl)).symm

/-- A load of a chunk's rows from the resident weight. -/
theorem ld_rows {M : Memref sig .tc .vmem S2816x1024 .bf16} (hM : M.IsWhole) (W : FVec F S2816x1024 .bf16) (q : ℕ)
    (h : 256 * q + 256 ≤ 2816) {off : Fin 2 → ℕ} (inb : ∀ a, off a + S256x1024.size a ≤ S2816x1024.size a) (h0 : off 0 = 256 * q) (h1 : off 1 = 0) :
    M.view.readAt (Elt F) (Rect.unit (s := S2816x1024) off S256x1024.size inb).toLoadRect (hM.unread W) = rows W q h := by
  rw [View.readAt_eq_ld, hM.read_unread]
  funext x
  exact (rows_emb W q h inb rfl h0 h1 x (rows W q h) (fun _ => rfl)).symm

/-- The block the body leaves, from the block it reads, the gains and the converted weights. -/
def out (x0 : FVec F S1x1024x1024 .f32) (x1 x2 : FVec F S1x1024 .f32) (W0 W1 : FVec F S1024x2816 .bf16) (W2 : FVec F S2816x1024 .bf16) :
    FVec F S1x1024x1024 .f32 :=
  k0_pay4 x0 (acc (k0_pay5 x0 x1) W0 W1 W2 10 (by norm_num)) x2

end Cert.Proof.FfnLastValue
-- ==== Proof.FfnLastRunA.lean ====
module

public import proofs.«01_k».proof.Proof.FfnLastSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnLastValue

open Cert.FfnLast Cert.FfnLast.Gen Cert.Proof.FfnRead

variable {F : FTy → Type} [FloatOps F]

local notation "𝕄" => MT nD τ sig Unit (Elt F) ℕ (Pipeline.UD sig nD τ) ℕ

set_option maxHeartbeats 80000000 in set_option sl_exec.dmaWindow true in set_option sl_exec.dmaWindowSet true in
/-- The body at the first point: it fills the resident weights and leaves the block's result. -/
theorem runA (c : Dev nD) (i : grid0.Coords) (arg2 : Memref sig .tc .vmem S1x1024x1024 .f32) (harg2 : arg2.IsWhole) (arg3 : Memref sig .tc .vmem S1x1024 .f32) (harg3 : arg3.IsWhole) (arg7 : Memref sig .tc .vmem S1x1024 .f32) (harg7 : arg7.IsWhole) (arg8 : Memref sig .tc .vmem S1x1024x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S2x1024x256 .f32) (harg12 : arg12.IsWhole) (arg13 : Memref sig .tc .vmem S2x1024x256 .f32) (harg13 : arg13.IsWhole) (arg14 : Memref sig .tc .vmem S2x256x1024 .f32) (harg14 : arg14.IsWhole) (arg16 : Memref sig .tc .vmem S1024x1024 .bf16) (harg16 : arg16.IsWhole) (arg17 : Memref sig .tc .vmem S1024x1024 .f32) (harg17 : arg17.IsWhole) (hc0 : cond0_0 i) (hc1 : ¬cond0_1 i)
    (x0 : Vec F S1x1024x1024 .f32) (x1 : Vec F S1x1024 .f32) (x2 : Vec F S1x1024 .f32) (fh0 : HbBuf0 (F := F) c hbM0_0) (fh1 : HbBuf0 (F := F) c hbM0_1) (fh2 : HbBuf0 (F := F) c hbM0_2)
    (W : Waits sig Unit) (K : PUnit → sProp 𝕄) :
        iprop(owns (c : Thread nD τ) arg2 fullShare x0 ∗ owns (c : Thread nD τ) arg3 fullShare x1 ∗ owns (c : Thread nD τ) arg7 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ owes (c : Thread nD τ) 0 W
            ∗ (iprop(owns (c : Thread nD τ) arg2 fullShare x0 ∗ owns (c : Thread nD τ) arg3 fullShare x1 ∗ owns (c : Thread nD τ) arg7 fullShare x2 ∗ owns (c : Thread nD τ) arg8 fullShare (out x0 x1 x2 (wcol fh0) (wcol fh1) (wrow fh2)) ∗ owns (c : Thread nD τ) arg9 fullShare (wcol fh0) ∗ owns (c : Thread nD τ) arg10 fullShare (wcol fh1) ∗ owns (c : Thread nD τ) arg11 fullShare (wrow fh2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_last i arg2 harg2 arg3 harg3 (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 cc0_scratch6 arg16 harg16 arg17 harg17) K := by
  simp only [cc0_ffn_last_eq_skeleton]; unfold cc0_ffn_last_skel
  simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hh0, Hh1, Hh2, HW, Hk⟩
  obtain rfl := harg2.eq_unread hf0; obtain rfl := harg3.eq_unread hf1; obtain rfl := harg7.eq_unread hf2
  sl_exec (disch := first | sl_exact hc0 | sl_exact hc1)
  sl_step
  have hn : k0_pay5 (View.readAt (Elt F) arg2.view (Rect.unit ![0, 0, 0] S1x1024x1024.size inb_S1x1024x1024_S1x1024x1024_0_0_0).toLoadRect (harg2.unread x0)) (View.readAt (Elt F) arg3.view (Rect.unit ![0, 0] S1x1024.size inb_S1x1024_S1x1024_0_0).toLoadRect (harg3.unread x1)) = k0_pay5 x0 x1 := by
    rw [load_whole harg2 _ _ (by decide), load_whole harg3 _ _ (by decide)]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg7.read_unread _
    iexact H2
  isplitl [H3]
  · iexists _; isplitr; swap; · iexact H3
    ipureintro
    refine store_whole _ _ _ _ _ (by decide) _ ?_
    rw [load_whole harg2 _ _ (by decide), load_whole harg7 _ _ (by decide)]
    refine congrArg (fun a => k0_pay4 x0 a x2) ?_
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_hit _ _ _ _ _ _ _) (layer_cols _ _ _ _ _ (1 : Fin 2) 2560 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_hit _ _ _ _ _ _ _) (layer_cols _ _ _ _ _ (1 : Fin 2) 2560 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_hit _ _ _ _ _ _ _) (layer_rows _ _ _ _ _ (1 : Fin 2) 2560 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2304 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2304 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 2304 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2048 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2048 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 2048 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1792 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1792 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1792 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1536 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1536 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1536 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1280 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1280 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1280 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1024 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1024 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1024 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 768 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 768 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 768 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 512 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 512 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 512 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (back _ _ _ _ _ ?_) (back _ _ _ _ _ ?_) (back _ _ _ _ _ ?_)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 256 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 256 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 256 (by norm_num) rfl (by decide) (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine first_congr (back _ _ _ _ _ hn) (back _ _ _ _ _ hn) (back _ _ _ _ _ ?_) (back _ _ _ _ _ ?_) (back _ _ _ _ _ ?_)
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 0 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 0 (by norm_num) rfl (by decide) (by decide) (by decide))
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 0 (by norm_num) rfl (by decide) (by decide) (by decide))
  isplitl [HS0]
  · iexists _; isplitr; swap; · iexact HS0
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_hit _ _ _ _ _ _ _) (layer_cols _ _ _ _ _ (1 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 0 (by norm_num) rfl (by decide) (by decide) (by decide))
    exact filled_nil _ _ _ _
  isplitl [HS1]
  · iexists _; isplitr; swap; · iexact HS1
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_hit _ _ _ _ _ _ _) (layer_cols _ _ _ _ _ (1 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_cols (slot_miss_hit _ _ _ _ _ _ _ _ (slots_disjoint _ _ (by decide)) _ _ _) (layer_cols _ _ _ _ _ (1 : Fin 2) 0 (by norm_num) rfl (by decide) (by decide) (by decide))
    exact filled_nil _ _ _ _
  isplitl [HS2]
  · iexists _; isplitr; swap; · iexact HS2
    ipureintro
    refine filled_all (a := (0 : Fin 2)) ?_
    refine filled_cons (n := 2560) 2816 ?_ (fun x => rows_emb _ 10 (by norm_num) _ rfl (by decide) (by decide) x _ (fun j => congrFun (?_ : _ = rows _ 10 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_hit _ _ _ _ _ _ _) (layer_rows _ _ _ _ _ (1 : Fin 2) 2560 (by norm_num) rfl (by decide) (by decide) (by decide))
    refine filled_cons (n := 2304) 2560 ?_ (fun x => rows_emb _ 9 (by norm_num) _ rfl (by decide) (by decide) x _ (fun j => congrFun (?_ : _ = rows _ 9 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 2304 (by norm_num) rfl (by decide) (by decide) (by decide))
    refine filled_cons (n := 2048) 2304 ?_ (fun x => rows_emb _ 8 (by norm_num) _ rfl (by decide) (by decide) x _ (fun j => congrFun (?_ : _ = rows _ 8 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 2048 (by norm_num) rfl (by decide) (by decide) (by decide))
    refine filled_cons (n := 1792) 2048 ?_ (fun x => rows_emb _ 7 (by norm_num) _ rfl (by decide) (by decide) x _ (fun j => congrFun (?_ : _ = rows _ 7 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1792 (by norm_num) rfl (by decide) (by decide) (by decide))
    refine filled_cons (n := 1536) 1792 ?_ (fun x => rows_emb _ 6 (by norm_num) _ rfl (by decide) (by decide) x _ (fun j => congrFun (?_ : _ = rows _ 6 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1536 (by norm_num) rfl (by decide) (by decide) (by decide))
    refine filled_cons (n := 1280) 1536 ?_ (fun x => rows_emb _ 5 (by norm_num) _ rfl (by decide) (by decide) x _ (fun j => congrFun (?_ : _ = rows _ 5 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1280 (by norm_num) rfl (by decide) (by decide) (by decide))
    refine filled_cons (n := 1024) 1280 ?_ (fun x => rows_emb _ 4 (by norm_num) _ rfl (by decide) (by decide) x _ (fun j => congrFun (?_ : _ = rows _ 4 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 1024 (by norm_num) rfl (by decide) (by decide) (by decide))
    refine filled_cons (n := 768) 1024 ?_ (fun x => rows_emb _ 3 (by norm_num) _ rfl (by decide) (by decide) x _ (fun j => congrFun (?_ : _ = rows _ 3 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 768 (by norm_num) rfl (by decide) (by decide) (by decide))
    refine filled_cons (n := 512) 768 ?_ (fun x => rows_emb _ 2 (by norm_num) _ rfl (by decide) (by decide) x _ (fun j => congrFun (?_ : _ = rows _ 2 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 512 (by norm_num) rfl (by decide) (by decide) (by decide))
    refine filled_cons (n := 256) 512 ?_ (fun x => rows_emb _ 1 (by norm_num) _ rfl (by decide) (by decide) x _ (fun j => congrFun (?_ : _ = rows _ 1 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 256 (by norm_num) rfl (by decide) (by decide) (by decide))
    refine filled_cons (n := 0) 256 ?_ (fun x => rows_emb _ 0 (by norm_num) _ rfl (by decide) (by decide) x _ (fun j => congrFun (?_ : _ = rows _ 0 _) j)) (by decide) (by decide) (by decide)
    rotate_left
    · simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
      refine conv_rows (slot_miss_hit _ _ _ _ _ _ _ _ (slots_disjoint _ _ (by decide)) _ _ _) (layer_rows _ _ _ _ _ (1 : Fin 2) 0 (by norm_num) rfl (by decide) (by decide) (by decide))
    exact filled_nil _ _ _ _
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnLastValue
-- ==== Proof.FfnLastRunB.lean ====
module

public import proofs.«01_k».proof.Proof.FfnLastSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnLastValue

open Cert.FfnLast Cert.FfnLast.Gen Cert.Proof.FfnRead

variable {F : FTy → Type} [FloatOps F]

local notation "𝕄" => MT nD τ sig Unit (Elt F) ℕ (Pipeline.UD sig nD τ) ℕ

set_option maxHeartbeats 80000000 in
/-- The body at a later point: it leaves the block's result and the resident weights as they were. -/
theorem runB (c : Dev nD) (i : grid0.Coords) (arg2 : Memref sig .tc .vmem S1x1024x1024 .f32) (harg2 : arg2.IsWhole) (arg3 : Memref sig .tc .vmem S1x1024 .f32) (harg3 : arg3.IsWhole) (arg7 : Memref sig .tc .vmem S1x1024 .f32) (harg7 : arg7.IsWhole) (arg8 : Memref sig .tc .vmem S1x1024x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S2x1024x256 .f32) (harg12 : arg12.IsWhole) (arg13 : Memref sig .tc .vmem S2x1024x256 .f32) (harg13 : arg13.IsWhole) (arg14 : Memref sig .tc .vmem S2x256x1024 .f32) (harg14 : arg14.IsWhole) (arg16 : Memref sig .tc .vmem S1024x1024 .bf16) (harg16 : arg16.IsWhole) (arg17 : Memref sig .tc .vmem S1024x1024 .f32) (harg17 : arg17.IsWhole) (hc0 : ¬cond0_0 i) (hc1 : cond0_1 i)
    (x0 : Vec F S1x1024x1024 .f32) (x1 : Vec F S1x1024 .f32) (x2 : Vec F S1x1024 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2)
    (W : Waits sig Unit) (K : PUnit → sProp 𝕄) :
        iprop(owns (c : Thread nD τ) arg2 fullShare x0 ∗ owns (c : Thread nD τ) arg3 fullShare x1 ∗ owns (c : Thread nD τ) arg7 fullShare x2 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ owes (c : Thread nD τ) 0 W
            ∗ (iprop(owns (c : Thread nD τ) arg2 fullShare x0 ∗ owns (c : Thread nD τ) arg3 fullShare x1 ∗ owns (c : Thread nD τ) arg7 fullShare x2 ∗ owns (c : Thread nD τ) arg8 fullShare (out x0 x1 x2 (xs0) (xs1) (xs2)) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_last i arg2 harg2 arg3 harg3 (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 cc0_scratch6 arg16 harg16 arg17 harg17) K := by
  simp only [cc0_ffn_last_eq_skeleton]; unfold cc0_ffn_last_skel
  simp only [k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hh0, Hh1, Hh2, HW, Hk⟩
  obtain rfl := harg2.eq_unread hf0; obtain rfl := harg3.eq_unread hf1; obtain rfl := harg7.eq_unread hf2; obtain rfl := harg9.eq_unread hfs0; obtain rfl := harg10.eq_unread hfs1; obtain rfl := harg11.eq_unread hfs2
  sl_exec (disch := first | sl_exact hc0 | sl_exact hc1)
  sl_step
  have hn : k0_pay59 (View.readAt (Elt F) arg2.view (Rect.unit ![0, 0, 0] S1x1024x1024.size inb_S1x1024x1024_S1x1024x1024_0_0_0).toLoadRect (harg2.unread x0)) (View.readAt (Elt F) arg3.view (Rect.unit ![0, 0] S1x1024.size inb_S1x1024_S1x1024_0_0).toLoadRect (harg3.unread x1)) = k0_pay5 x0 x1 := by
    rw [load_whole harg2 _ _ (by decide), load_whole harg3 _ _ (by decide)]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg7.read_unread _
    iexact H2
  isplitl [H3]
  · iexists _; isplitr; swap; · iexact H3
    ipureintro
    refine store_whole _ _ _ _ _ (by decide) _ ?_
    rw [load_whole harg2 _ _ (by decide), load_whole harg7 _ _ (by decide)]
    refine congrArg (fun a => k0_pay4 x0 a x2) ?_
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 10 _ _ (by decide) (by decide)) (ld_cols harg10 xs1 10 _ _ (by decide) (by decide)) (ld_rows harg11 xs2 10 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 9 _ _ (by decide) (by decide)) (ld_cols harg10 xs1 9 _ _ (by decide) (by decide)) (ld_rows harg11 xs2 9 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 8 _ _ (by decide) (by decide)) (ld_cols harg10 xs1 8 _ _ (by decide) (by decide)) (ld_rows harg11 xs2 8 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 7 _ _ (by decide) (by decide)) (ld_cols harg10 xs1 7 _ _ (by decide) (by decide)) (ld_rows harg11 xs2 7 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 6 _ _ (by decide) (by decide)) (ld_cols harg10 xs1 6 _ _ (by decide) (by decide)) (ld_rows harg11 xs2 6 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 5 _ _ (by decide) (by decide)) (ld_cols harg10 xs1 5 _ _ (by decide) (by decide)) (ld_rows harg11 xs2 5 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 4 _ _ (by decide) (by decide)) (ld_cols harg10 xs1 4 _ _ (by decide) (by decide)) (ld_rows harg11 xs2 4 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 3 _ _ (by decide) (by decide)) (ld_cols harg10 xs1 3 _ _ (by decide) (by decide)) (ld_rows harg11 xs2 3 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 2 _ _ (by decide) (by decide)) (ld_cols harg10 xs1 2 _ _ (by decide) (by decide)) (ld_rows harg11 xs2 2 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    refine step_congr ?_ (back _ _ _ _ _ hn) (back _ _ _ _ _ hn) (ld_cols harg9 xs0 1 _ _ (by decide) (by decide)) (ld_cols harg10 xs1 1 _ _ (by decide) (by decide)) (ld_rows harg11 xs2 1 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, Idealize.ShloMosaic.shapeCast_self]
    exact first_congr (back _ _ _ _ _ hn) (back _ _ _ _ _ hn) (ld_cols harg9 xs0 0 _ _ (by decide) (by decide)) (ld_cols harg10 xs1 0 _ _ (by decide) (by decide)) (ld_rows harg11 xs2 0 _ _ (by decide) (by decide))
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnLastValue
-- ==== Proof.FfnLastFrame.lean ====
module

public import proofs.«01_k».proof.Proof.FfnLastRunA
public import proofs.«01_k».proof.Proof.FfnLastRunB
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnLastValue

open Cert.FfnLast Cert.FfnLast.Gen Cert.Proof.FfnRead

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Before the first point the launch's invariant; afterwards the resident weights converted. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg2) ∗ hbPt0 c hbM0_1 (V m c main_arg3) ∗ hbPt0 c hbM0_2 (V m c main_arg4)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg2) ∗ hbPt0 c hbM0_1 (V m c main_arg3) ∗ hbPt0 c hbM0_2 (V m c main_arg4))) := rfl

theorem PhiS_pos (c : Dev nD) (n : ℕ) (h : n ≤ cfg0.N) (hz : n ≠ 0) :
    PhiS m c n h = iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg2) ∗ hbPt0 c hbM0_1 (V m c main_arg3) ∗ hbPt0 c hbM0_2 (V m c main_arg4))) := by
  cases n with
  | zero => exact absurd rfl hz
  | succ n => rfl

/-- The pipeline's data: inputs at their blocks, the output at what the body computes from them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t) (wcol (V m c main_arg2)) (wcol (V m c main_arg3)) (wrow (V m c main_arg4))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out (iblk m c 0 t) (iblk m c 1 t) (iblk m c 2 t) (wcol (V m c main_arg2)) (wcol (V m c main_arg3)) (wrow (V m c main_arg4)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : 1 ≤ t.val
    · exfalso; omega
    · by_cases hz : t.val = 0
      · rw [PhiS_castSucc m c t, PhiS_zero m c _ _ hz, PhiD0_eq]
        iintro ⟨⟨⟨HS0, HS1, HS2, HS3, HS4, HS5, HS6, HS7⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩⟩
        iapply (runA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (V m c main_arg2) (V m c main_arg3) (V m c main_arg4) W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [HW]; · iexact HW
        iintro ⟨H0, H1, H2, H3, HS0, HS1, HS2, HS3, HS4, HS5, HS6, HS7, Hq0, Hq1, Hq2, Hq3, Hq4, Hq5, Hh0, Hh1, Hh2, ⟨%W', HW'⟩⟩
        isplitl [HS0 HS1 HS2 HS3 HS4 HS5 HS6 HS7 Hg Hq0 Hq1 Hq2 Hq3 Hq4 Hq5 Hh0 Hh1 Hh2]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        iexact H3
      · exfalso; have hN : t.val < 32 := lt_of_lt_of_eq t.isLt (show cfg0.N = 32 from N_0); omega
  · by_cases h1 : 1 ≤ t.val
    · by_cases hz : t.val = 0
      · exfalso; have hN : t.val < 32 := lt_of_lt_of_eq t.isLt (show cfg0.N = 32 from N_0); omega
      · rw [PhiS_castSucc m c t, PhiS_pos m c _ _ hz]
        iintro ⟨⟨⟨HS0, HS1, HS2, HS3, HS4, HS5, HS6, HS7⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩⟩
        iapply (runB c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) _ _ _ (V m c main_arg2) (V m c main_arg3) (V m c main_arg4) W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [HW]; · iexact HW
        iintro ⟨H0, H1, H2, H3, HS0, HS1, HS2, HS3, HS4, HS5, HS6, HS7, Hq0, Hq1, Hq2, Hq3, Hq4, Hq5, Hh0, Hh1, Hh2, ⟨%W', HW'⟩⟩
        isplitl [HS0 HS1 HS2 HS3 HS4 HS5 HS6 HS7 Hg Hq0 Hq1 Hq2 Hq3 Hq4 Hq5 Hh0 Hh1 Hh2]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        iexact H3
    · exfalso; omega

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7⟩, Hg, ⟨Hq0, Hq1, Hq2, Hq3, Hq4, Hq5⟩, ⟨Hh0, Hh1, Hh2⟩⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
/-- Every execution ends with the arrays as the data says and the counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Proof.FfnLastValue

end
-- ==== Proof.FfnLastCell.lean ====
module

public import proofs.«01_k».proof.Proof.FfnLastSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FfnLastValue

open Cert.FfnLast Cert.FfnLast.Gen

/-! The feed-forward part at an index, over the reals. -/

/-- One hidden feature of a row. -/
def hid (n wg wu : Fin 1024 → EReal) : EReal :=
  (∑ k : Fin 1024, n k * wg k) * Ideal.logistic (∑ k : Fin 1024, n k * wg k) * ∑ k : Fin 1024, n k * wu k

/-- What hidden feature `x` adds to entry `(r, l)`; nothing past the last feature. -/
def term (n : FVec Ideal S1024x1024 .bf16) (W0 W1 : FVec Ideal S1024x2816 .bf16) (W2 : FVec Ideal S2816x1024 .bf16) (r : Fin 1024) (l : Fin 1024) (x : ℕ) : EReal :=
  if h : x < 2816 then hid (fun k => n (ix2 r k)) (fun k => W0 (ix2 k ⟨x, h⟩)) (fun k => W1 (ix2 k ⟨x, h⟩)) * W2 (ix2 ⟨x, h⟩ l) else 0

theorem chunk_apply (n : FVec Ideal S1024x1024 .bf16) (W0 W1 : FVec Ideal S1024x2816 .bf16) (W2 : FVec Ideal S2816x1024 .bf16) (r : Fin 1024) (l : Fin 1024)
    (q : ℕ) (h : 256 * q + 256 ≤ 2816) :
    chunk n (cols W0 q h) n (cols W1 q h) (rows W2 q h) (ix2 r l) = ∑ j : Fin 256, term n W0 W1 W2 r l (256 * q + j.val) := by
  have e : ∀ j : Fin 256, term n W0 W1 W2 r l (256 * q + j.val)
      = hid (fun k => n (ix2 r k)) (fun k => cols W0 q h (ix2 k j)) (fun k => cols W1 q h (ix2 k j)) * rows W2 q h (ix2 j l) := fun j => by
    unfold term
    rw [dif_pos (Nat.lt_of_lt_of_le (Nat.add_lt_add_left j.isLt _) h)]
    rfl
  simp only [e]
  generalize cols W0 q h = a0
  generalize cols W1 q h = a1
  generalize rows W2 q h = a2
  pointwise [chunk, hid]

/-- The chunks together are the sum over the hidden features they span. -/
theorem acc_range (n : FVec Ideal S1024x1024 .bf16) (W0 W1 : FVec Ideal S1024x2816 .bf16) (W2 : FVec Ideal S2816x1024 .bf16) (r : Fin 1024) (l : Fin 1024) :
    (q : ℕ) → (h : 256 * q + 256 ≤ 2816) → acc n W0 W1 W2 q h (ix2 r l) = ∑ x ∈ Finset.range (256 * q + 256), term n W0 W1 W2 r l x
  | 0, h => by
    refine (chunk_apply n W0 W1 W2 r l 0 h).trans ?_
    rw [Finset.sum_range]
    exact Finset.sum_congr rfl fun j _ => congrArg _ (by simp only [Nat.mul_zero, Nat.zero_add])
  | q + 1, h => by
    show acc n W0 W1 W2 q _ (ix2 r l) + chunk n (cols W0 (q + 1) h) n (cols W1 (q + 1) h) (rows W2 (q + 1) h) (ix2 r l) = _
    rw [acc_range n W0 W1 W2 r l q, chunk_apply, show 256 * (q + 1) + 256 = (256 * q + 256) + 256 from by omega,
      Finset.sum_range_add (term n W0 W1 W2 r l) (256 * q + 256) 256]
    exact congrArg _ ((Finset.sum_range fun x => term n W0 W1 W2 r l (256 * q + 256 + x)).symm)

theorem acc_apply (n : FVec Ideal S1024x1024 .bf16) (W0 W1 : FVec Ideal S1024x2816 .bf16) (W2 : FVec Ideal S2816x1024 .bf16) (r : Fin 1024) (l : Fin 1024) :
    acc n W0 W1 W2 10 (by norm_num) (ix2 r l)
      = ∑ x : Fin 2816, hid (fun k => n (ix2 r k)) (fun k => W0 (ix2 k x)) (fun k => W1 (ix2 k x)) * W2 (ix2 x l) := by
  rw [acc_range, show 256 * 10 + 256 = 2816 from rfl, Finset.sum_range]
  exact Finset.sum_congr rfl fun x _ => dif_pos x.isLt

/-- Scaled to unit mean square, with a gain. -/
def rms (h g : Fin 1024 → EReal) (k : Fin 1024) : EReal :=
  h k * Ideal.rsqrt (Ideal.div (∑ x : Fin 1024, h x * h x) (Ideal.ofBits FTy.f32 1149239296#32) + Ideal.ofBits FTy.f32 897988541#32) * g k

/-- A row with half its feed-forward part added. -/
def half (h g : Fin 1024 → EReal) (wg wu : Fin 1024 → Fin 2816 → EReal) (wd : Fin 2816 → Fin 1024 → EReal) (l : Fin 1024) : EReal :=
  h l + Ideal.ofBits FTy.f32 1056964608#32 * ∑ x : Fin 2816, hid (rms h g) (fun k => wg k x) (fun k => wu k x) * wd x l

theorem norm_apply (x0 : Vec Ideal S1x1024x1024 .f32) (x1 : Vec Ideal S1x1024 .f32) (r : Fin 1024) (k : Fin 1024) :
    k0_pay5 x0 x1 (ix2 r k) = rms (fun k => x0 (ix3 0 r k)) (fun k => x1 (ix2 0 k)) k := by
  pointwise [k0_pay5, rms]

theorem res_apply (x0 : Vec Ideal S1x1024x1024 .f32) (a : FVec Ideal S1024x1024 .f32) (x2 : Vec Ideal S1x1024 .f32) (z : Fin 1) (r : Fin 1024) (l : Fin 1024) :
    k0_pay4 x0 a x2 (ix3 z r l) = rms (fun k => x0 (ix3 0 r k) + Ideal.ofBits FTy.f32 1056964608#32 * a (ix2 r k)) (fun k => x2 (ix2 0 k)) l := by
  pointwise [k0_pay4, rms]

theorem out_apply (x0 : Vec Ideal S1x1024x1024 .f32) (x1 x2 : Vec Ideal S1x1024 .f32) (W0 W1 : FVec Ideal S1024x2816 .bf16) (W2 : FVec Ideal S2816x1024 .bf16)
    (z : Fin 1) (r : Fin 1024) (l : Fin 1024) :
    out x0 x1 x2 W0 W1 W2 (ix3 z r l)
      = rms (half (fun k => x0 (ix3 0 r k)) (fun k => x1 (ix2 0 k)) (fun k x => W0 (ix2 k x)) (fun k x => W1 (ix2 k x)) (fun x l => W2 (ix2 x l))) (fun k => x2 (ix2 0 k)) l := by
  unfold out
  rw [res_apply]
  congr 1
  funext k
  rw [acc_apply]
  unfold half
  rw [show (fun k => k0_pay5 x0 x1 (ix2 r k)) = rms (fun k => x0 (ix3 0 r k)) (fun k => x1 (ix2 0 k)) from funext fun k => norm_apply x0 x1 r k]

theorem wcol_apply (f : FVec Ideal S2x1024x2816 .f32) (k : Fin 1024) (x : Fin 2816) : wcol f (ix2 k x) = f (ix3 1 k x) := rfl

theorem wrow_apply (f : FVec Ideal S2x2816x1024 .f32) (x : Fin 2816) (l : Fin 1024) : wrow f (ix2 x l) = f (ix3 1 x l) := rfl

end Cert.Proof.FfnLastValue

end
-- ==== Proof.FfnLastValue.lean ====
module

public import proofs.«01_k».proof.Proof.FfnLastFrame
public import proofs.«01_k».proof.Proof.FfnLastCell
public import proofs.«01_k».proof.Proof.Gen.FfnLastRefIdeal.Run
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.FfnLastValue

open Cert.FfnLast Cert.FfnLast.Gen

variable (m : (ℓ : Loc nD τ sig) → Buf (Elt Ideal) ℓ)

theorem in1 (c : Dev nD) (z : Fin 1) (l : Fin 1024) :
    (V m c main_v2 : FVec Ideal S1x1024 .f32) (ix2 z l) = (m ((c : Thread nD τ).loc main_arg1) : FVec Ideal S2x1024 .f32) (ix2 1 l) := by
  unfold V hostOps0
  after_results_simp
  pointwise

theorem in2 (c : Dev nD) (z : Fin 1) (l : Fin 1024) :
    (V m c main_v3 : FVec Ideal S1x1024 .f32) (ix2 z l) = (m ((c : Thread nD τ).loc main_arg5) : FVec Ideal S1024 .f32) (ix1 l) := by
  unfold V hostOps0
  after_results_simp
  pointwise

theorem idx0 : ∀ t : Fin grid0.N, win0_0.index t 0 = t.val / 2 ∧ win0_0.index t 1 = 16 + 1024 * (t.val % 2) ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val / 2 ∧ win0_3.index t 1 = t.val % 2 ∧ win0_3.index t 2 = 0 := by decide +kernel

theorem blk0 (c : Dev nD) (t : Fin cfg0.N) (z : Fin 1) (r : Fin 1024) (l : Fin 1024) (hb : t.val / 2 < 16) (hs : 16 + (1024 * (t.val % 2) + r.val) < 2064) :
    (iblk m c 0 t : Vec Ideal S1x1024x1024 .f32) (ix3 z r l) = (V m c main_arg0 : FVec Ideal S16x2064x1024 .f32) (ix3 ⟨t.val / 2, hb⟩ ⟨16 + (1024 * (t.val % 2) + r.val), hs⟩ l) := by
  have hi := idx0 t
  unfold iblk
  rw [View.read_apply]
  show V m c main_arg0 _ = V m c main_arg0 _
  congr 1
  funext a
  apply Fin.ext
  match a with
  | ⟨0, _⟩ => show win0_0.index t 0 + 1 * z.val = t.val / 2; rw [hi.1]; omega
  | ⟨1, _⟩ => show win0_0.index t 1 + 1 * r.val = 16 + (1024 * (t.val % 2) + r.val); rw [hi.2.1]; omega
  | ⟨2, _⟩ => show win0_0.index t 2 + 1 * l.val = l.val; rw [hi.2.2]; omega

theorem blk1 (c : Dev nD) (t : Fin cfg0.N) (r : Fin 1) (l : Fin 1024) :
    (iblk m c 1 t : Vec Ideal S1x1024 .f32) (ix2 r l) = (V m c main_v2 : FVec Ideal S1x1024 .f32) (ix2 r l) := by
  have hi := idx1 t
  unfold iblk
  rw [View.read_apply]
  show V m c main_v2 _ = V m c main_v2 _
  congr 1
  funext a
  apply Fin.ext
  match a with
  | ⟨0, _⟩ => show win0_1.index t 0 * 1 + 1 * r.val = r.val; rw [hi.1]; omega
  | ⟨1, _⟩ => show win0_1.index t 1 * 1024 + 1 * l.val = l.val; rw [hi.2]; omega

theorem blk2 (c : Dev nD) (t : Fin cfg0.N) (r : Fin 1) (l : Fin 1024) :
    (iblk m c 2 t : Vec Ideal S1x1024 .f32) (ix2 r l) = (V m c main_v3 : FVec Ideal S1x1024 .f32) (ix2 r l) := by
  have hi := idx2 t
  unfold iblk
  rw [View.read_apply]
  show V m c main_v3 _ = V m c main_v3 _
  congr 1
  funext a
  apply Fin.ext
  match a with
  | ⟨0, _⟩ => show win0_2.index t 0 * 1 + 1 * r.val = r.val; rw [hi.1]; omega
  | ⟨1, _⟩ => show win0_2.index t 1 * 1024 + 1 * l.val = l.val; rw [hi.2]; omega

/-- The result as one function of the arguments. -/
def G (c : Dev nD) (b : Fin 16) (s : Fin 2048) (l : Fin 1024) : EReal :=
  rms (half (fun k => (m ((c : Thread nD τ).loc main_arg0) : FVec Ideal S16x2064x1024 .f32) (ix3 b ⟨16 + s.val, by omega⟩ k))
    (fun k => (m ((c : Thread nD τ).loc main_arg1) : FVec Ideal S2x1024 .f32) (ix2 1 k))
    (fun k x => (m ((c : Thread nD τ).loc main_arg2) : FVec Ideal S2x1024x2816 .f32) (ix3 1 k x))
    (fun k x => (m ((c : Thread nD τ).loc main_arg3) : FVec Ideal S2x1024x2816 .f32) (ix3 1 k x))
    (fun x l => (m ((c : Thread nD τ).loc main_arg4) : FVec Ideal S2x2816x1024 .f32) (ix3 1 x l)))
    (fun k => (m ((c : Thread nD τ).loc main_arg5) : FVec Ideal S1024 .f32) (ix1 k)) l

/-- The same as an array. -/
def A (c : Dev nD) : FVec Ideal S16x2048x1024 .f32 := fun i => G m c (i 0) (i 1) (i 2)

theorem ex3 {p q r : Nat} (i : (a : Fin 3) → Fin (![p, q, r] a)) : ∃ (x : Fin p) (y : Fin q) (z : Fin r), i = ix3 x y z :=
  ⟨i 0, i 1, i 2, funext fun a => match a with | ⟨0, _⟩ => rfl | ⟨1, _⟩ => rfl | ⟨2, _⟩ => rfl⟩

theorem blk_out (c : Dev nD) (X : FVec Ideal S16x2048x1024 .f32) (t : Fin cfg0.N) (z : Fin 1) (r : Fin 1024) (l : Fin 1024) (hb : t.val / 2 < 16) (hs : 1024 * (t.val % 2) + r.val < 2048) :
    ((cfg0.win 3).blk t).view.read (Elt Ideal) X (ix3 z r l) = X (ix3 ⟨t.val / 2, hb⟩ ⟨1024 * (t.val % 2) + r.val, hs⟩ l) := by
  have hi := idx3 t
  rw [View.read_apply]
  show X _ = X _
  congr 1
  funext a
  apply Fin.ext
  match a with
  | ⟨0, _⟩ => show win0_3.index t 0 * 1 + 1 * z.val = t.val / 2; rw [hi.1]; omega
  | ⟨1, _⟩ => show win0_3.index t 1 * 1024 + 1 * r.val = 1024 * (t.val % 2) + r.val; rw [hi.2.1]; omega
  | ⟨2, _⟩ => show win0_3.index t 2 * 1024 + 1 * l.val = l.val; rw [hi.2.2]; omega

theorem cell_congr {h h' g g' f f' : Fin 1024 → EReal} {wg wg' wu wu' : Fin 1024 → Fin 2816 → EReal} {wd wd' : Fin 2816 → Fin 1024 → EReal} (l : Fin 1024)
    (e0 : ∀ k, h k = h' k) (e1 : ∀ k, g k = g' k) (e2 : ∀ k x, wg k x = wg' k x) (e3 : ∀ k x, wu k x = wu' k x) (e4 : ∀ x l, wd x l = wd' x l) (e5 : ∀ k, f k = f' k) :
    rms (half h g wg wu wd) f l = rms (half h' g' wg' wu' wd') f' l := by
  obtain rfl := funext e0; obtain rfl := funext e1; obtain rfl := funext fun k => funext (e2 k); obtain rfl := funext fun k => funext (e3 k)
  obtain rfl := funext fun k => funext (e4 k); obtain rfl := funext e5
  rfl

/-- What point `t` leaves, at an index, as a function of the arguments. -/
theorem out_iblk (c : Dev nD) (t : Fin cfg0.N) (z : Fin 1) (r : Fin 1024) (l : Fin 1024) (hb : t.val / 2 < 16) (hs : 1024 * (t.val % 2) + r.val < 2048) :
    out (F := Ideal) (iblk m c 0 t) (iblk m c 1 t) (iblk m c 2 t) (wcol (V m c main_arg2)) (wcol (V m c main_arg3)) (wrow (V m c main_arg4)) (ix3 z r l)
      = G m c ⟨t.val / 2, hb⟩ ⟨1024 * (t.val % 2) + r.val, hs⟩ l := by
  refine (out_apply _ _ _ _ _ _ z r l).trans ?_
  unfold G
  exact cell_congr l (fun k => (blk0 m c t 0 r k hb (by omega)).trans (congrFun (V_main_arg0 m c) _)) (fun k => (blk1 m c t 0 k).trans (in1 m c 0 k))
    (fun k x => (wcol_apply _ k x).trans (congrFun (V_main_arg2 m c) _)) (fun k x => (wcol_apply _ k x).trans (congrFun (V_main_arg3 m c) _))
    (fun x l => (wrow_apply _ x l).trans (congrFun (V_main_arg4 m c) _)) (fun k => (blk2 m c t 0 k).trans (in2 m c 0 k))

/-- Point `t` writes its block of the result. -/
theorem flushed_eq (c : Dev nD) (t : Fin cfg0.N) :
    (dats m 0 c).flushed 3 t = ((cfg0.win 3).blk t).view.read (Elt Ideal) (A m c) := by
  have hN : t.val < 32 := Nat.lt_of_lt_of_eq t.isLt N_0
  have hb : t.val / 2 < 16 := by omega
  show (cfg0.win 3).cut (grid0.coords t) ((dats m 0 c).after 3 t) = _
  rw [after0_3]
  funext j
  obtain ⟨z, r, l, rfl⟩ : ∃ (z : Fin 1) (r : Fin 1024) (l : Fin 1024), j = ix3 z r l := ex3 j
  have hs : 1024 * (t.val % 2) + r.val < 2048 := by omega
  exact (out_iblk m c t z r l hb hs).trans (blk_out c (A m c) t z r l hb hs).symm

theorem cover (i : S16x2048x1024.Idx) : ∃ t : Fin cfg0.N, (cfg0.win 3).flush t = true ∧ i ∈ ((cfg0.win 3).blk t).view.set := by
  have h0 : (i 0 : Nat) < 16 := (i 0).isLt
  have h1 : (i 1 : Nat) < 2048 := (i 1).isLt
  have h2 : (i 2 : Nat) < 1024 := (i 2).isLt
  have hN : cfg0.N = 32 := N_0
  let t : Fin cfg0.N := ⟨2 * (i 0 : Nat) + (i 1 : Nat) / 1024, by omega⟩
  refine ⟨t, flush0_3 t, ?_⟩
  have hi := idx3 t
  have ht : t.val = 2 * (i 0 : Nat) + (i 1 : Nat) / 1024 := rfl
  show i ∈ ((View.whole main_v4).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [hi.1]; omega
  | ⟨1, _⟩ => show win0_3.index t 1 * 1024 ≤ (i 1 : Nat) ∧ (i 1 : Nat) < win0_3.index t 1 * 1024 + 1024; rw [hi.2.1]; omega
  | ⟨2, _⟩ => show win0_3.index t 2 * 1024 ≤ (i 2 : Nat) ∧ (i 2 : Nat) < win0_3.index t 2 * 1024 + 1024; rw [hi.2.2]; omega

theorem final (c : Dev nD) : (dats m 0 c).arrAt 3 cfg0.N = A m c :=
  (dats m 0 c).arrAt_eq_of_cover 3 (A m c) (fun t _ => flushed_eq m c t) cover

/-- The reference's result is the same function of its arguments. -/
theorem ref_eq (m' : (ℓ : Loc Cert.FfnLastRefIdeal.nD Cert.FfnLastRefIdeal.τ Cert.FfnLastRefIdeal.sig) → Buf (Elt Ideal) ℓ) (c : Dev nD)
    (e0 : m' ((c.tc : Thread _ _).loc Cert.FfnLastRefIdeal.main_arg0) = m ((c : Thread nD τ).loc main_arg0))
    (e1 : m' ((c.tc : Thread _ _).loc Cert.FfnLastRefIdeal.main_arg1) = m ((c : Thread nD τ).loc main_arg1))
    (e2 : m' ((c.tc : Thread _ _).loc Cert.FfnLastRefIdeal.main_arg2) = m ((c : Thread nD τ).loc main_arg2))
    (e3 : m' ((c.tc : Thread _ _).loc Cert.FfnLastRefIdeal.main_arg3) = m ((c : Thread nD τ).loc main_arg3))
    (e4 : m' ((c.tc : Thread _ _).loc Cert.FfnLastRefIdeal.main_arg4) = m ((c : Thread nD τ).loc main_arg4))
    (e5 : m' ((c.tc : Thread _ _).loc Cert.FfnLastRefIdeal.main_arg5) = m ((c : Thread nD τ).loc main_arg5)) :
    Cert.FfnLastRefIdeal.Value.res_out0 m' c = A m c := by
  funext i
  obtain ⟨b, s, l, rfl⟩ := ex3 (p := 16) (q := 2048) (r := 1024) i
  unfold Cert.FfnLastRefIdeal.Value.res_out0 Cert.FfnLastRefIdeal.Value.res_main_v42
  rw [e0, e1, e2, e3, e4, e5]
  show _ = G m c b s l
  pointwise [G, rms, half, hid, Ideal.logistic]

end Cert.Proof.FfnLastValue

end
-- ==== Proof.FfnLastClaims.lean ====
/- The claims about `FfnLast`. The program and its idealization have the same text, so one run serves both: it is stated of the
   program at any float values, and carried over. -/
module

public import proofs.«01_k».proof.Defs
public import proofs.«01_k».proof.Proof.FfnLastValue
public import proofs.«01_k».proof.Proof.Gen.FfnLast
public import proofs.«01_k».proof.Proof.Gen.FfnLastIdeal
public import proofs.«01_k».proof.Proof.Gen.FfnLastRefIdeal
public import Idealize.ShloMosaic.Adequacy
public import Idealize.ShloMosaic.Init

@[expose] public section

set_option maxRecDepth 16384

noncomputable section

namespace Cert.Proof.FfnLastValue

open Idealize.ShloMosaic Idealize.ShloMosaic.TcCoe Idealize.SL.Sem
open Idealize.ShloMosaic.Pipeline (Dat)

section Run

open Cert.FfnLast Cert.FfnLast.Gen

variable {F : FTy → Type} [FloatOps F]

variable (m : (ℓ : Loc nD τ sig) → Buf (Elt F) ℓ) (ρ : Dev nD → PrngReg)

/-- Every execution ends with the result's array as the blocks make it, the arguments unchanged and the counters at zero. -/
theorem run_blocks : θ_run (defs (F := F)) (onTc (τ := τ) (main (F := F))) ⟨m, fun _ => 0, ρ⟩ (fun r =>
      (∀ c : Dev nD, r.2.mem ((c.tc : Thread nD τ).loc main_v4) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

end Run

/-! The idealization's definitions are the program's. -/

section Same

variable {F : FTy → Type} [FloatOps F]

theorem same_defs₀ : Cert.FfnLastIdeal.defs₀ (F := F) = Cert.FfnLast.defs₀ (F := F) := by
  unfold Cert.FfnLastIdeal.defs₀ Cert.FfnLast.defs₀
  congr 1
  funext l x
  match l, x with
  | 0, (t, s) => rfl

theorem same_defs : Cert.FfnLastIdeal.defs (F := F) = Cert.FfnLast.defs (F := F) := by
  unfold Cert.FfnLastIdeal.defs Cert.FfnLast.defs
  rw [same_defs₀]
  rfl

theorem same_main : Cert.FfnLastIdeal.main (F := F) = Cert.FfnLast.main (F := F) := rfl

end Same

theorem run_ideal (m : (ℓ : Loc Cert.FfnLast.nD Cert.FfnLast.τ Cert.FfnLast.sig) → Buf (Elt Ideal) ℓ) (ρ : Dev Cert.FfnLast.nD → PrngReg)
    {Q : PUnit × MemSt Cert.FfnLast.nD Cert.FfnLast.τ Cert.FfnLast.sig (Elt Ideal) → Prop}
    (h : θ_run (Cert.FfnLast.defs (F := Ideal)) (onTc (τ := Cert.FfnLast.τ) (Cert.FfnLast.main (F := Ideal))) ⟨m, fun _ => 0, ρ⟩ Q) :
    θ_run (Cert.FfnLastIdeal.defs (F := Ideal)) (onTc (τ := Cert.FfnLastIdeal.τ) (Cert.FfnLastIdeal.main (F := Ideal))) ⟨m, fun _ => 0, ρ⟩ Q := by
  rw [show Cert.FfnLastIdeal.defs (F := Ideal) = Cert.FfnLast.defs (F := Ideal) from same_defs]
  exact h

theorem frame_p : Cert.quiescent_FfnLast (hFfnLast := Cert.FfnLast.Gen.facts) :=
  fun m ρ _ => (θ_run Cert.FfnLast.defs _ _).mono (fun _ h => ⟨fun c => (h.1 c).2, h.2⟩) (run_blocks (F := Bits) m ρ)

theorem frame_pi : Cert.quiescent_FfnLastIdeal (hFfnLastIdeal := Cert.FfnLastIdeal.Gen.facts) :=
  fun m ρ _ => run_ideal m ρ ((θ_run Cert.FfnLast.defs _ _).mono (fun _ h => ⟨fun c => (h.1 c).2, h.2⟩) (run_blocks (F := Ideal) m ρ))

theorem frame_ri : Cert.quiescent_FfnLastRefIdeal (hFfnLastRefIdeal := Cert.FfnLastRefIdeal.Gen.facts) :=
  fun m ρ _ => (θ_run Cert.FfnLastRefIdeal.defs _ _).mono (fun r h => ⟨fun c => (h c).2, sem_eq_zero_of_no_sems (by decide) r.2⟩)
    (Cert.FfnLastRefIdeal.Value.run (F := Ideal) m ρ)

/-- Both results are `A`: the kernel's by its blocks, the reference's by its composed term. -/
theorem algebraic : Cert.algebraic_FfnLastIdeal_FfnLastRefIdeal (hFfnLastIdeal := Cert.FfnLastIdeal.Gen.facts) (hFfnLastRefIdeal := Cert.FfnLastRefIdeal.Gen.facts) :=
  fun m ρ m' ρ' _ hag => ⟨fun c => A m c,
    run_ideal m ρ ((θ_run Cert.FfnLast.defs _ _).mono (fun _ h c => ⟨(h.1 c).1.trans (final m c), (h.1 c).2⟩) (run_blocks (F := Ideal) m ρ)),
    (θ_run Cert.FfnLastRefIdeal.defs _ _).mono (fun _ h c =>
        have ⟨e0, e1, e2, e3, e4, e5⟩ := hag c
        ⟨(h c).1.trans (ref_eq m m' c e0 e1 e2 e3 e4 e5), (h c).2⟩)
      (Cert.FfnLastRefIdeal.Value.run (F := Ideal) m' ρ')⟩

end Cert.Proof.FfnLastValue

end
-- ==== Proof.FfnRuns.lean ====
/- What the runs of `Ffn`'s body share: the arrays as the launch finds them, the windows' blocks, the branch conditions in closed
   form over the grid points, and the memrefs of the windows and of the scratch. -/
module

public import proofs.«01_k».proof.Proof.Gen.Ffn.Launch
public import proofs.«01_k».proof.Proof.Gen.Ffn.Skeleton
public import proofs.«01_k».proof.Proof.Gen.Ffn.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.FfnValue

open Cert.Ffn Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 43 = 0 :=
  (fun t => by
    have ht : t.val < 43 := Nat.lt_of_lt_of_eq t.isLt N_0
    have e0 : (grid0.coords t 0).val = t.val / 1 % 43 := Pipeline.Grid.coords_val t 0 (by decide) rfl
    simp only [cond0_0, e0]
    word_cmp
   : ∀ t : Fin grid0.N, cond0_0 (grid0.coords t) ↔ t.val % 43 = 0)

/-- The condition of the body's `scf.if` 1 (`k0_h2`), from the grid coordinates (the skeleton's scalar
    chain substituted). -/
abbrev cond0_1 (i : grid0.Coords) : Prop := (Scalar.cmpi .ne (Scalar.extui (Scalar.xori (Scalar.cmpi .eq (BitVec.ofNat 32 (i 0).val) 0#32) 1#1)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## The kernel body on any staging memrefs: a subtype the run finds -/

/-- Each window's current staging memref at point `t`, spelled as the pipeline passes it (`bodyAt0`), and its wholeness. -/
abbrev ms0_0 (t : Fin cfg0.N) : Memref sig .tc .vmem S768x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1024 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S2x1024x256 .f32 := Memref.whole cc0_scratch3
abbrev scM0_4 : Memref sig .tc .vmem S2x1024x256 .f32 := Memref.whole cc0_scratch4
abbrev scM0_5 : Memref sig .tc .vmem S2x256x1024 .f32 := Memref.whole cc0_scratch5
abbrev scM0_6 : Memref sig .tc .vmem S768x1024 .bf16 := Memref.whole cc0_scratch7
abbrev scM0_7 : Memref sig .tc .vmem S768x1024 .f32 := Memref.whole cc0_scratch8
/-- The scratch `arg7` the kernel carries between points, as a view: what it holds is stated through it. -/
abbrev VS0_0 : View sig .tc .vmem S1024x2816 .bf16 := scM0_0.view
/-- The scratch `arg8` the kernel carries between points, as a view: what it holds is stated through it. -/
abbrev VS0_1 : View sig .tc .vmem S1024x2816 .bf16 := scM0_1.view
/-- The scratch `arg9` the kernel carries between points, as a view: what it holds is stated through it. -/
abbrev VS0_2 : View sig .tc .vmem S2816x1024 .bf16 := scM0_2.view
/-- The operands left in HBM that the body copies into scratch itself, whole. -/
abbrev hbM0_0 : Memref sig .tc .hbm S2x1024x2816 .f32 := Memref.whole main_arg2
abbrev hbM0_1 : Memref sig .tc .hbm S2x1024x2816 .f32 := Memref.whole main_arg3
abbrev hbM0_2 : Memref sig .tc .hbm S2x2816x1024 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 5, SemLoc.dma 6, SemLoc.dma 7, SemLoc.dma 8, SemLoc.dma 9, SemLoc.dma 10] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3) ∗ hbPt0 c hbM0_2 (V m c main_arg4)) := by
  rw [BI.bigSep_eq_bigSepL_of_eq [main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3) ∗ hbPt0 c hbM0_2 (V m c main_arg4))) := by
  rw [Pipeline.ΦD_eq, scopedRest0_eq, ownSems00_eq, hbmPts0_eq]; simp only [scM0_0, scM0_1, scM0_2, scM0_3, scM0_4, scM0_5, scM0_6, scM0_7, owns_whole]; try rfl

end Cert.Proof.FfnValue

end
-- ==== Proof.FfnSpec.lean ====
module

public import proofs.«01_k».proof.Proof.FfnRuns
public import proofs.«01_k».proof.Proof.FfnRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnValue

open Cert.Ffn Cert.Ffn.Gen Cert.Proof.FfnRead

variable {F : FTy → Type} [FloatOps F]

/-! What one call of the body computes, as functions of the block and the weights. -/

/-- Columns `256 q … 256 q + 255`. -/
def cols (W : FVec F S1024x2816 .bf16) (q : ℕ) (h : 256 * q + 256 ≤ 2816) : FVec F S1024x256 .bf16 :=
  fun j => W (ix2 (j 0) ⟨256 * q + (j 1).val, Nat.lt_of_lt_of_le (Nat.add_lt_add_left (j 1).isLt _) h⟩)

/-- Rows `256 q … 256 q + 255`. -/
def rows (W : FVec F S2816x1024 .bf16) (q : ℕ) (h : 256 * q + 256 ≤ 2816) : FVec F S256x1024 .bf16 :=
  fun j => W (ix2 ⟨256 * q + (j 0).val, Nat.lt_of_lt_of_le (Nat.add_lt_add_left (j 0).isLt _) h⟩ (j 1))

/-- A layer's weight with the hidden features along columns, converted. -/
def wcol (f : FVec F S2x1024x2816 .f32) : FVec F S1024x2816 .bf16 :=
  truncf .bf16 (fun j => f (ix3 (0 : Fin 2) (j 0) (j 1)) : FVec F S1024x2816 .f32) bitsLt_bf16_f32

/-- A layer's weight with the hidden features along rows, converted. -/
def wrow (f : FVec F S2x2816x1024 .f32) : FVec F S2816x1024 .bf16 :=
  truncf .bf16 (fun j => f (ix3 (0 : Fin 2) (j 0) (j 1)) : FVec F S2816x1024 .f32) bitsLt_bf16_f32

/-- A chunk of hidden features applied: gated, and multiplied back. -/
def chunk (n : FVec F S768x1024 .bf16) (g : FVec F S1024x256 .bf16) (n' : FVec F S768x1024 .bf16) (u : FVec F S1024x256 .bf16)
    (w : FVec F S256x1024 .bf16) : FVec F S768x1024 .f32 :=
  matmul dot_S768x256_S256x1024_S768x1024_1_0_0_1_n_n none (truncf .bf16 (mulf (mulf
      (matmul dot_S768x1024_S1024x256_S768x256_1_0_0_1_n_n none n g (constant S768x256 .f32 0x00000000#32))
      (logistic (matmul dot_S768x1024_S1024x256_S768x256_1_0_0_1_n_n none n g (constant S768x256 .f32 0x00000000#32))))
      (matmul dot_S768x1024_S1024x256_S768x256_1_0_0_1_n_n none n' u (constant S768x256 .f32 0x00000000#32))) bitsLt_bf16_f32)
    w (constant S768x1024 .f32 0x00000000#32)

/-- The sum over the first `q + 1` chunks. -/
def acc (n : FVec F S768x1024 .bf16) (W0 W1 : FVec F S1024x2816 .bf16) (W2 : FVec F S2816x1024 .bf16) :
    (q : ℕ) → 256 * q + 256 ≤ 2816 → FVec F S768x1024 .f32
  | 0, h => chunk n (cols W0 0 h) n (cols W1 0 h) (rows W2 0 h)
  | q + 1, h => addf (acc n W0 W1 W2 q (by omega)) (chunk n (cols W0 (q + 1) h) n (cols W1 (q + 1) h) (rows W2 (q + 1) h))

theorem first_congr {n n' N : FVec F S768x1024 .bf16} {g u : FVec F S1024x256 .bf16} {w : FVec F S256x1024 .bf16}
    {W0 W1 : FVec F S1024x2816 .bf16} {W2 : FVec F S2816x1024 .bf16} {h : 256 * 0 + 256 ≤ 2816}
    (hn : n = N) (hn' : n' = N) (hg : g = cols W0 0 h) (hu : u = cols W1 0 h) (hw : w = rows W2 0 h) :
    chunk n g n' u w = acc N W0 W1 W2 0 h := by subst hn hn' hg hu hw; rfl

theorem step_congr {n n' N : FVec F S768x1024 .bf16} {g u : FVec F S1024x256 .bf16} {w : FVec F S256x1024 .bf16}
    {W0 W1 : FVec F S1024x2816 .bf16} {W2 : FVec F S2816x1024 .bf16} {q : ℕ} {h : 256 * (q + 1) + 256 ≤ 2816}
    {a : FVec F S768x1024 .f32} (ha : a = acc N W0 W1 W2 q (by omega))
    (hn : n = N) (hn' : n' = N) (hg : g = cols W0 (q + 1) h) (hu : u = cols W1 (q + 1) h) (hw : w = rows W2 (q + 1) h) :
    addf a (chunk n g n' u w) = acc N W0 W1 W2 (q + 1) h := by subst hn hn' hg hu hw ha; rfl

theorem conv_cols {v : FVec F S1x1024x256 .f32} {w : FVec F S1024x256 .f32} {f : FVec F S2x1024x2816 .f32} {q : ℕ}
    {h : 256 * q + 256 ≤ 2816} (hv : shapeCast S1024x256 v shapeCasts_S1x1024x256_S1024x256 = w)
    (hw : w = fun j => f (ix3 (0 : Fin 2) (j 0) ⟨256 * q + (j 1).val, Nat.lt_of_lt_of_le (Nat.add_lt_add_left (j 1).isLt _) h⟩)) :
    truncf .bf16 (shapeCast S1024x256 v shapeCasts_S1x1024x256_S1024x256) bitsLt_bf16_f32 = cols (wcol f) q h := by
  rw [hv, hw]; rfl

theorem conv_rows {v : FVec F S1x256x1024 .f32} {w : FVec F S256x1024 .f32} {f : FVec F S2x2816x1024 .f32} {q : ℕ}
    {h : 256 * q + 256 ≤ 2816} (hv : shapeCast S256x1024 v shapeCasts_S1x256x1024_S256x1024 = w)
    (hw : w = fun j => f (ix3 (0 : Fin 2) ⟨256 * q + (j 0).val, Nat.lt_of_lt_of_le (Nat.add_lt_add_left (j 0).isLt _) h⟩ (j 1))) :
    truncf .bf16 (shapeCast S256x1024 v shapeCasts_S1x256x1024_S256x1024) bitsLt_bf16_f32 = rows (wrow f) q h := by
  rw [hv, hw]; rfl

/-- Where a chunk's columns lie. -/
theorem cols_emb (W : FVec F S1024x2816 .bf16) (q : ℕ) (h : 256 * q + 256 ≤ 2816) {off size : Fin 2 → ℕ}
    (inb : ∀ a, off a + size a ≤ S1024x2816.size a) (hs : size = ![1024, 256]) (h0 : off 0 = 0) (h1 : off 1 = 256 * q) (x : (Rect.unit (s := S1024x2816) off size inb).shape.Idx)
    (w : (Rect.unit (s := S1024x2816) off size inb).shape.Idx → F .bf16) (hw : ∀ j : S1024x256.Idx, w (fun a => ⟨(j a).val, by subst hs; exact (j a).isLt⟩) = cols W q h j) :
    w x = W ((Rect.unit (s := S1024x2816) off size inb).emb x) := by
  subst hs
  refine (hw x).trans (congrArg W ?_)
  funext a
  match a with
  | ⟨0, _⟩ => exact Fin.ext (by show (x 0).val = off 0 + 1 * (x 0).val; omega)
  | ⟨1, _⟩ => exact Fin.ext (by show 256 * q + (x 1).val = off 1 + 1 * (x 1).val; omega)

/-- Where a chunk's rows lie. -/
theorem rows_emb (W : FVec F S2816x1024 .bf16) (q : ℕ) (h : 256 * q + 256 ≤ 2816) {off size : Fin 2 → ℕ}
    (inb : ∀ a, off a + size a ≤ S2816x1024.size a) (hs : size = ![256, 1024]) (h0 : off 0 = 256 * q) (h1 : off 1 = 0) (x : (Rect.unit (s := S2816x1024) off size inb).shape.Idx)
    (w : (Rect.unit (s := S2816x1024) off size inb).shape.Idx → F .bf16) (hw : ∀ j : S256x1024.Idx, w (fun a => ⟨(j a).val, by subst hs; exact (j a).isLt⟩) = rows W q h j) :
    w x = W ((Rect.unit (s := S2816x1024) off size inb).emb x) := by
  subst hs
  refine (hw x).trans (congrArg W ?_)
  funext a
  match a with
  | ⟨0, _⟩ => exact Fin.ext (by show 256 * q + (x 0).val = off 0 + 1 * (x 0).val; omega)
  | ⟨1, _⟩ => exact Fin.ext (by show (x 1).val = off 1 + 1 * (x 1).val; omega)

/-- A load of a chunk's columns from the resident weight. -/
theorem ld_cols {M : Memref sig .tc .vmem S1024x2816 .bf16} (hM : M.IsWhole) (W : FVec F S1024x2816 .bf16) (q : ℕ)
    (h : 256 * q + 256 ≤ 2816) {off : Fin 2 → ℕ} (inb : ∀ a, off a + S1024x256.size a ≤ S1024x2816.size a) (h0 : off 0 = 0) (h1 : off 1 = 256 * q) :
    M.view.readAt (Elt F) (Rect.unit (s := S1024x2816) off S1024x256.size inb).toLoadRect (hM.unread W) = cols W q h := by
  rw [View.readAt_eq_ld, hM.read_unread]
  funext x
  exact (cols_emb W q h inb rfl h0 h1 x (cols W q h) (fun _ => rfl)).symm

/-- A load of a chunk's rows from the resident weight. -/
theorem ld_rows {M : Memref sig .tc .vmem S2816x1024 .bf16} (hM : M.IsWhole) (W : FVec F S2816x1024 .bf16) (q : ℕ)
    (h : 256 * q + 256 ≤ 2816) {off : Fin 2 → ℕ} (inb : ∀ a, off a + S256x1024.size a ≤ S2816x1024.size a) (h0 : off 0 = 256 * q) (h1 : off 1 = 0) :
    M.view.readAt (Elt F) (Rect.unit (s := S2816x1024) off S256x1024.size inb).toLoadRect (hM.unread W) = rows W q h := by
  rw [View.readAt_eq_ld, hM.read_unread]
  funext x
  exact (rows_emb W q h inb rfl h0 h1 x (rows W q h) (fun _ => rfl)).symm

/-- The block the body leaves, from the block it reads, the gain and the converted weights. -/
def out (x0 : FVec F S768x1024 .f32) (x1 : FVec F S1x1024 .f32) (W0 W1 : FVec F S1024x2816 .bf16) (W2 : FVec F S2816x1024 .bf16) :
    FVec F S768x1024 .f32 :=
  k0_pay4 x0 (acc (k0_pay5 x0 x1) W0 W1 W2 10 (by norm_num))

end Cert.Proof.FfnValue
-- ==== Proof.FfnRunA.lean ====
module

public import proofs.«01_k».proof.Proof.FfnSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnValue

open Cert.Ffn Cert.Ffn.Gen Cert.Proof.FfnRead

variable {F : FTy → Type} [FloatOps F]

local notation "𝕄" => MT nD τ sig Unit (Elt F) ℕ (Pipeline.UD sig nD τ) ℕ

set_option maxHeartbeats 80000000 in set_option sl_exec.dmaWindow true in set_option sl_exec.dmaWindowSet true in
/-- The body at the first point: it fills the resident weights and leaves the block's result. -/
theorem runA (c : Dev nD) (i : grid0.Coords) (arg1 : Memref sig .tc .vmem S768x1024 .f32) (harg1 : arg1.IsWhole) (arg2 : Memref sig .tc .vmem S1x1024 .f32) (harg2 : arg2.IsWhole) (arg6 : Memref sig .tc .vmem S768x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x1024x256 .f32) (harg10 : arg10.IsWhole) (arg11 : Memref sig .tc .vmem S2x1024x256 .f32) (harg11 : arg11.IsWhole) (arg12 : Memref sig .tc .vmem S2x256x1024 .f32) (harg12 : arg12.IsWhole) (arg14 : Memref sig .tc .vmem S768x1024 .bf16) (harg14 : arg14.IsWhole) (arg15 : Memref sig .tc .vmem S768x1024 .f32) (harg15 : arg15.IsWhole) (hc0 : cond0_0 i) (hc1 : ¬cond0_1 i)
    (x0 : Vec F S768x1024 .f32) (x1 : Vec F S1x1024 .f32) (fh0 : HbBuf0 (F := F) c hbM0_0) (fh1 : HbBuf0 (F := F) c hbM0_1) (fh2 : HbBuf0 (F := F) c hbM0_2)
    (W : Waits sig Unit) (K : PUnit → sProp 𝕄) :
        iprop(owns (c : Thread nD τ) arg1 fullShare x0 ∗ owns (c : Thread nD τ) arg2 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare (out x0 x1 (wcol fh0) (wcol fh1) (wrow fh2)) ∗ owns (c : Thread nD τ) arg7 fullShare (wcol fh0) ∗ owns (c : Thread nD τ) arg8 fullShare (wcol fh1) ∗ owns (c : Thread nD τ) arg9 fullShare (wrow fh2) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 cc0_scratch6 arg14 harg14 arg15 harg15) K := by
  simp only [cc0_ffn_eq_skeleton]; unfold cc0_ffn_skel
  simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hh0, Hh1, Hh2, HW, Hk⟩
  obtain rfl := harg1.eq_unread hf0; obtain rfl := harg2.eq_unread hf1
  sl_exec (disch := first | sl_exact hc0 | sl_exact hc1)
  sl_step
  have hn : k0_pay5 (View.readAt (Elt F) arg1.view (Rect.unit ![0, 0] S768x1024.size inb_S768x1024_S768x1024_0_0).toLoadRect (harg1.unread x0)) (View.readAt (Elt F) arg2.view (Rect.unit ![0, 0] S1x1024.size inb_S1x1024_S1x1024_0_0).toLoadRect (harg2.unread x1)) = k0_pay5 x0 x1 := by
    rw [load_whole harg1 _ _ (by decide), load_whole harg2 _ _ (by decide)]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine store_whole _ _ _ _ _ (by decide) _ ?_
    rw [load_whole harg1 _ _ (by decide)]
    refine congrArg (fun a => k0_pay4 x0 a) ?_
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_hit _ _ _ _ _ _ _) (layer_cols _ _ _ _ _ (0 : Fin 2) 2560 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_hit _ _ _ _ _ _ _) (layer_cols _ _ _ _ _ (0 : Fin 2) 2560 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_hit _ _ _ _ _ _ _) (layer_rows _ _ _ _ _ (0 : Fin 2) 2560 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2304 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2304 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 2304 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2048 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2048 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 2048 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1792 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1792 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1792 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1536 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1536 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1536 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1280 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1280 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1280 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1024 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1024 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1024 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 768 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 768 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 768 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 512 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 512 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 512 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine step_congr ?_ (back _ _ _ _ _ hn) (back _ _ _ _ _ hn) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 256 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 256 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 256 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
    try delta runA.sl.cst_730
    refine first_congr (back _ _ _ _ _ hn) (back _ _ _ _ _ hn) (back _ _ _ _ _ ?_) (back _ _ _ _ _ ?_) (back _ _ _ _ _ ?_)
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 0 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 0 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 0 (by norm_num) rfl (by decide) (by decide) (by decide))
  isplitl [HS0]
  · iexists _; isplitr; swap; · iexact HS0
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_hit _ _ _ _ _ _ _) (layer_cols _ _ _ _ _ (0 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 0 (by norm_num) rfl (by decide) (by decide) (by decide))
    exact filled_nil _ _ _ _
  isplitl [HS1]
  · iexists _; isplitr; swap; · iexact HS1
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_hit _ _ _ _ _ _ _) (layer_cols _ _ _ _ _ (0 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_cols (slot_miss_hit _ _ _ _ _ _ _ _ (slots_disjoint _ _ (by decide)) _ _ _) (layer_cols _ _ _ _ _ (0 : Fin 2) 0 (by norm_num) rfl (by decide) (by decide) (by decide))
    exact filled_nil _ _ _ _
  isplitl [HS2]
  · iexists _; isplitr; swap; · iexact HS2
    ipureintro
    refine filled_all (a := (0 : Fin 2)) ?_
    refine filled_cons (n := 2560) 2816 ?_ (fun x => rows_emb _ 10 (by norm_num) _ rfl (by decide) (by decide) x _ (fun j => congrFun (?_ : _ = rows _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_hit _ _ _ _ _ _ _) (layer_rows _ _ _ _ _ (0 : Fin 2) 2560 (by norm_num) rfl (by decide) (by decide) (by decide))
    refine filled_cons (n := 2304) 2560 ?_ (fun x => rows_emb _ 9 (by norm_num) _ rfl (by decide) (by decide) x _ (fun j => congrFun (?_ : _ = rows _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 2304 (by norm_num) rfl (by decide) (by decide) (by decide))
    refine filled_cons (n := 2048) 2304 ?_ (fun x => rows_emb _ 8 (by norm_num) _ rfl (by decide) (by decide) x _ (fun j => congrFun (?_ : _ = rows _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 2048 (by norm_num) rfl (by decide) (by decide) (by decide))
    refine filled_cons (n := 1792) 2048 ?_ (fun x => rows_emb _ 7 (by norm_num) _ rfl (by decide) (by decide) x _ (fun j => congrFun (?_ : _ = rows _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1792 (by norm_num) rfl (by decide) (by decide) (by decide))
    refine filled_cons (n := 1536) 1792 ?_ (fun x => rows_emb _ 6 (by norm_num) _ rfl (by decide) (by decide) x _ (fun j => congrFun (?_ : _ = rows _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1536 (by norm_num) rfl (by decide) (by decide) (by decide))
    refine filled_cons (n := 1280) 1536 ?_ (fun x => rows_emb _ 5 (by norm_num) _ rfl (by decide) (by decide) x _ (fun j => congrFun (?_ : _ = rows _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1280 (by norm_num) rfl (by decide) (by decide) (by decide))
    refine filled_cons (n := 1024) 1280 ?_ (fun x => rows_emb _ 4 (by norm_num) _ rfl (by decide) (by decide) x _ (fun j => congrFun (?_ : _ = rows _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 1024 (by norm_num) rfl (by decide) (by decide) (by decide))
    refine filled_cons (n := 768) 1024 ?_ (fun x => rows_emb _ 3 (by norm_num) _ rfl (by decide) (by decide) x _ (fun j => congrFun (?_ : _ = rows _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 768 (by norm_num) rfl (by decide) (by decide) (by decide))
    refine filled_cons (n := 512) 768 ?_ (fun x => rows_emb _ 2 (by norm_num) _ rfl (by decide) (by decide) x _ (fun j => congrFun (?_ : _ = rows _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 512 (by norm_num) rfl (by decide) (by decide) (by decide))
    refine filled_cons (n := 256) 512 ?_ (fun x => rows_emb _ 1 (by norm_num) _ rfl (by decide) (by decide) x _ (fun j => congrFun (?_ : _ = rows _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 256 (by norm_num) rfl (by decide) (by decide) (by decide))
    refine filled_cons (n := 0) 256 ?_ (fun x => rows_emb _ 0 (by norm_num) _ rfl (by decide) (by decide) x _ (fun j => congrFun (?_ : _ = rows _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7);(try delta runA.sl.r_8)
      try simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, shapeCast_self]
      refine conv_rows (slot_miss_hit _ _ _ _ _ _ _ _ (slots_disjoint _ _ (by decide)) _ _ _) (layer_rows _ _ _ _ _ (0 : Fin 2) 0 (by norm_num) rfl (by decide) (by decide) (by decide))
    exact filled_nil _ _ _ _
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnValue
-- ==== Proof.FfnRunB.lean ====
module

public import proofs.«01_k».proof.Proof.FfnSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnValue

open Cert.Ffn Cert.Ffn.Gen Cert.Proof.FfnRead

variable {F : FTy → Type} [FloatOps F]

local notation "𝕄" => MT nD τ sig Unit (Elt F) ℕ (Pipeline.UD sig nD τ) ℕ

set_option maxHeartbeats 80000000 in
/-- The body at a later point: it leaves the block's result and the resident weights as they were. -/
theorem runB (c : Dev nD) (i : grid0.Coords) (arg1 : Memref sig .tc .vmem S768x1024 .f32) (harg1 : arg1.IsWhole) (arg2 : Memref sig .tc .vmem S1x1024 .f32) (harg2 : arg2.IsWhole) (arg6 : Memref sig .tc .vmem S768x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S2x1024x256 .f32) (harg10 : arg10.IsWhole) (arg11 : Memref sig .tc .vmem S2x1024x256 .f32) (harg11 : arg11.IsWhole) (arg12 : Memref sig .tc .vmem S2x256x1024 .f32) (harg12 : arg12.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i)
    (x0 : Vec F S768x1024 .f32) (x1 : Vec F S1x1024 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2)
    (W : Waits sig Unit) (K : PUnit → sProp 𝕄) :
        iprop(owns (c : Thread nD τ) arg1 fullShare x0 ∗ owns (c : Thread nD τ) arg2 fullShare x1 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare (out x0 x1 (xs0) (xs1) (xs2)) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 cc0_scratch6 arg14 harg14 arg15 harg15) K := by
  simp only [cc0_ffn_eq_skeleton]; unfold cc0_ffn_skel
  simp only [k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hh0, Hh1, Hh2, HW, Hk⟩
  obtain rfl := harg1.eq_unread hf0; obtain rfl := harg2.eq_unread hf1; obtain rfl := harg7.eq_unread hfs0; obtain rfl := harg8.eq_unread hfs1; obtain rfl := harg9.eq_unread hfs2
  sl_exec (disch := first | sl_exact hc0 | sl_exact hc1)
  sl_step
  have hn : k0_pay56 (View.readAt (Elt F) arg1.view (Rect.unit ![0, 0] S768x1024.size inb_S768x1024_S768x1024_0_0).toLoadRect (harg1.unread x0)) (View.readAt (Elt F) arg2.view (Rect.unit ![0, 0] S1x1024.size inb_S1x1024_S1x1024_0_0).toLoadRect (harg2.unread x1)) = k0_pay5 x0 x1 := by
    rw [load_whole harg1 _ _ (by decide), load_whole harg2 _ _ (by decide)]
    rfl
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine store_whole _ _ _ _ _ (by decide) _ ?_
    rw [load_whole harg1 _ _ (by decide)]
    refine congrArg (fun a => k0_pay4 x0 a) ?_
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 10 _ _ (by decide) (by decide)) (ld_cols harg8 xs1 10 _ _ (by decide) (by decide)) (ld_rows harg9 xs2 10 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 9 _ _ (by decide) (by decide)) (ld_cols harg8 xs1 9 _ _ (by decide) (by decide)) (ld_rows harg9 xs2 9 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 8 _ _ (by decide) (by decide)) (ld_cols harg8 xs1 8 _ _ (by decide) (by decide)) (ld_rows harg9 xs2 8 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 7 _ _ (by decide) (by decide)) (ld_cols harg8 xs1 7 _ _ (by decide) (by decide)) (ld_rows harg9 xs2 7 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 6 _ _ (by decide) (by decide)) (ld_cols harg8 xs1 6 _ _ (by decide) (by decide)) (ld_rows harg9 xs2 6 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 5 _ _ (by decide) (by decide)) (ld_cols harg8 xs1 5 _ _ (by decide) (by decide)) (ld_rows harg9 xs2 5 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 4 _ _ (by decide) (by decide)) (ld_cols harg8 xs1 4 _ _ (by decide) (by decide)) (ld_rows harg9 xs2 4 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 3 _ _ (by decide) (by decide)) (ld_cols harg8 xs1 3 _ _ (by decide) (by decide)) (ld_rows harg9 xs2 3 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 2 _ _ (by decide) (by decide)) (ld_cols harg8 xs1 2 _ _ (by decide) (by decide)) (ld_rows harg9 xs2 2 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    refine step_congr ?_ (back _ _ _ _ _ hn) (back _ _ _ _ _ hn) (ld_cols harg7 xs0 1 _ _ (by decide) (by decide)) (ld_cols harg8 xs1 1 _ _ (by decide) (by decide)) (ld_rows harg9 xs2 1 _ _ (by decide) (by decide))
    refine back _ _ _ _ _ ?_
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    unfold runB.sl.r
    simp only [k0_pay1, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, Idealize.ShloMosaic.shapeCast_self]
    exact first_congr (back _ _ _ _ _ hn) (back _ _ _ _ _ hn) (ld_cols harg7 xs0 0 _ _ (by decide) (by decide)) (ld_cols harg8 xs1 0 _ _ (by decide) (by decide)) (ld_rows harg9 xs2 0 _ _ (by decide) (by decide))
  isplitl [HS0]
  · iexists _; isplitr; · ipureintro; exact harg7.read_unread _
    iexact HS0
  isplitl [HS1]
  · iexists _; isplitr; · ipureintro; exact harg8.read_unread _
    iexact HS1
  isplitl [HS2]
  · iexists _; isplitr; · ipureintro; exact harg9.read_unread _
    iexact HS2
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnValue
-- ==== Proof.FfnFrame.lean ====
module

public import proofs.«01_k».proof.Proof.FfnRunA
public import proofs.«01_k».proof.Proof.FfnRunB
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnValue

open Cert.Ffn Cert.Ffn.Gen Cert.Proof.FfnRead

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Before the first point the launch's invariant; afterwards the resident weights converted. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3) ∗ hbPt0 c hbM0_2 (V m c main_arg4)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3) ∗ hbPt0 c hbM0_2 (V m c main_arg4))) := rfl

theorem PhiS_pos (c : Dev nD) (n : ℕ) (h : n ≤ cfg0.N) (hz : n ≠ 0) :
    PhiS m c n h = iprop(iprop(owns (c : Thread nD τ) scM0_0 fullShare (wcol (V m c main_arg2)) ∗ owns (c : Thread nD τ) scM0_1 fullShare (wcol (V m c main_arg3)) ∗ owns (c : Thread nD τ) scM0_2 fullShare (wrow (V m c main_arg4)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3) ∗ hbPt0 c hbM0_2 (V m c main_arg4))) := by
  cases n with
  | zero => exact absurd rfl hz
  | succ n => rfl

/-- The pipeline's data: inputs at their blocks, the output at what the body computes from them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t) (wcol (V m c main_arg2)) (wcol (V m c main_arg3)) (wrow (V m c main_arg4))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out (iblk m c 0 t) (iblk m c 1 t) (wcol (V m c main_arg2)) (wcol (V m c main_arg3)) (wrow (V m c main_arg4)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2]
  unfold Dat.owesAt Pipeline.owesWithin
  rw [show (dats m 0 c).owed t.castSucc = 0 from rfl, show (dats m 0 c).owed t.succ = 0 from rfl]
  have hN : t.val < 43 := lt_of_lt_of_eq t.isLt (show cfg0.N = 43 from N_0)
  by_cases h0 : t.val % 43 = 0
  · by_cases h1 : 1 ≤ t.val
    · exfalso; omega
    · by_cases hz : t.val = 0
      · rw [PhiS_castSucc m c t, PhiS_zero m c _ _ hz, PhiD0_eq]
        iintro ⟨⟨⟨HS0, HS1, HS2, HS3, HS4, HS5, HS6, HS7⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩⟩
        iapply (runA c (grid0.coords t) _ _ _ _ _ _ _ _ _ _ _ _ _ _ _ _ _ _ _ _ _ _ ((hcond0_0 t).mpr h0) (fun h => h1 ((hcond0_1 t).mp h)) (iblk m c 0 t) (iblk m c 1 t) (V m c main_arg2) (V m c main_arg3) (V m c main_arg4) W _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [HW]; · iexact HW
        iintro ⟨H0, H1, H2, HS0, HS1, HS2, HS3, HS4, HS5, HS6, HS7, Hq0, Hq1, Hq2, Hq3, Hq4, Hq5, Hh0, Hh1, Hh2, ⟨%W', HW'⟩⟩
        isplitl [HS0 HS1 HS2 HS3 HS4 HS5 HS6 HS7 Hg Hq0 Hq1 Hq2 Hq3 Hq4 Hq5 Hh0 Hh1 Hh2]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        iexact H2
      · exfalso; have hN : t.val < 43 := lt_of_lt_of_eq t.isLt (show cfg0.N = 43 from N_0); omega
  · by_cases h1 : 1 ≤ t.val
    · by_cases hz : t.val = 0
      · exfalso; have hN : t.val < 43 := lt_of_lt_of_eq t.isLt (show cfg0.N = 43 from N_0); omega
      · rw [PhiS_castSucc m c t, PhiS_pos m c _ _ hz]
        iintro ⟨⟨⟨HS0, HS1, HS2, HS3, HS4, HS5, HS6, HS7⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩⟩
        iapply (runB c (grid0.coords t) _ _ _ _ _ _ _ _ _ _ _ _ _ _ _ _ _ _ _ _ _ _ (fun h => h0 ((hcond0_0 t).mp h)) ((hcond0_1 t).mpr h1) (iblk m c 0 t) (iblk m c 1 t) _ _ _ (V m c main_arg2) (V m c main_arg3) (V m c main_arg4) W _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [HW]; · iexact HW
        iintro ⟨H0, H1, H2, HS0, HS1, HS2, HS3, HS4, HS5, HS6, HS7, Hq0, Hq1, Hq2, Hq3, Hq4, Hq5, Hh0, Hh1, Hh2, ⟨%W', HW'⟩⟩
        isplitl [HS0 HS1 HS2 HS3 HS4 HS5 HS6 HS7 Hg Hq0 Hq1 Hq2 Hq3 Hq4 Hq5 Hh0 Hh1 Hh2]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        iexact H2
    · exfalso; omega

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7⟩, Hg, ⟨Hq0, Hq1, Hq2, Hq3, Hq4, Hq5⟩, ⟨Hh0, Hh1, Hh2⟩⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 43 := N_0; omega)

set_option backward.isDefEq.respectTransparency.types false in
/-- Every execution ends with the arrays as the data says and the counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Proof.FfnValue

end
-- ==== Proof.FfnCell.lean ====
module

public import proofs.«01_k».proof.Proof.FfnSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FfnValue

open Cert.Ffn Cert.Ffn.Gen

/-! The feed-forward part at an index, over the reals. -/

/-- One hidden feature of a row. -/
def hid (n wg wu : Fin 1024 → EReal) : EReal :=
  (∑ k : Fin 1024, n k * wg k) * Ideal.logistic (∑ k : Fin 1024, n k * wg k) * ∑ k : Fin 1024, n k * wu k

/-- What hidden feature `x` adds to entry `(r, l)`; nothing past the last feature. -/
def term (n : FVec Ideal S768x1024 .bf16) (W0 W1 : FVec Ideal S1024x2816 .bf16) (W2 : FVec Ideal S2816x1024 .bf16) (r : Fin 768) (l : Fin 1024) (x : ℕ) : EReal :=
  if h : x < 2816 then hid (fun k => n (ix2 r k)) (fun k => W0 (ix2 k ⟨x, h⟩)) (fun k => W1 (ix2 k ⟨x, h⟩)) * W2 (ix2 ⟨x, h⟩ l) else 0

theorem chunk_apply (n : FVec Ideal S768x1024 .bf16) (W0 W1 : FVec Ideal S1024x2816 .bf16) (W2 : FVec Ideal S2816x1024 .bf16) (r : Fin 768) (l : Fin 1024)
    (q : ℕ) (h : 256 * q + 256 ≤ 2816) :
    chunk n (cols W0 q h) n (cols W1 q h) (rows W2 q h) (ix2 r l) = ∑ j : Fin 256, term n W0 W1 W2 r l (256 * q + j.val) := by
  have e : ∀ j : Fin 256, term n W0 W1 W2 r l (256 * q + j.val)
      = hid (fun k => n (ix2 r k)) (fun k => cols W0 q h (ix2 k j)) (fun k => cols W1 q h (ix2 k j)) * rows W2 q h (ix2 j l) := fun j => by
    unfold term
    rw [dif_pos (Nat.lt_of_lt_of_le (Nat.add_lt_add_left j.isLt _) h)]
    rfl
  simp only [e]
  generalize cols W0 q h = a0
  generalize cols W1 q h = a1
  generalize rows W2 q h = a2
  pointwise [chunk, hid]

/-- The chunks together are the sum over the hidden features they span. -/
theorem acc_range (n : FVec Ideal S768x1024 .bf16) (W0 W1 : FVec Ideal S1024x2816 .bf16) (W2 : FVec Ideal S2816x1024 .bf16) (r : Fin 768) (l : Fin 1024) :
    (q : ℕ) → (h : 256 * q + 256 ≤ 2816) → acc n W0 W1 W2 q h (ix2 r l) = ∑ x ∈ Finset.range (256 * q + 256), term n W0 W1 W2 r l x
  | 0, h => by
    refine (chunk_apply n W0 W1 W2 r l 0 h).trans ?_
    rw [Finset.sum_range]
    exact Finset.sum_congr rfl fun j _ => congrArg _ (by simp only [Nat.mul_zero, Nat.zero_add])
  | q + 1, h => by
    show acc n W0 W1 W2 q _ (ix2 r l) + chunk n (cols W0 (q + 1) h) n (cols W1 (q + 1) h) (rows W2 (q + 1) h) (ix2 r l) = _
    rw [acc_range n W0 W1 W2 r l q, chunk_apply, show 256 * (q + 1) + 256 = (256 * q + 256) + 256 from by omega,
      Finset.sum_range_add (term n W0 W1 W2 r l) (256 * q + 256) 256]
    exact congrArg _ ((Finset.sum_range fun x => term n W0 W1 W2 r l (256 * q + 256 + x)).symm)

theorem acc_apply (n : FVec Ideal S768x1024 .bf16) (W0 W1 : FVec Ideal S1024x2816 .bf16) (W2 : FVec Ideal S2816x1024 .bf16) (r : Fin 768) (l : Fin 1024) :
    acc n W0 W1 W2 10 (by norm_num) (ix2 r l)
      = ∑ x : Fin 2816, hid (fun k => n (ix2 r k)) (fun k => W0 (ix2 k x)) (fun k => W1 (ix2 k x)) * W2 (ix2 x l) := by
  rw [acc_range, show 256 * 10 + 256 = 2816 from rfl, Finset.sum_range]
  exact Finset.sum_congr rfl fun x _ => dif_pos x.isLt

/-- Scaled to unit mean square, with a gain. -/
def rms (h g : Fin 1024 → EReal) (k : Fin 1024) : EReal :=
  h k * Ideal.rsqrt (Ideal.div (∑ x : Fin 1024, h x * h x) (Ideal.ofBits FTy.f32 1149239296#32) + Ideal.ofBits FTy.f32 897988541#32) * g k

/-- A row with half its feed-forward part added. -/
def half (h g : Fin 1024 → EReal) (wg wu : Fin 1024 → Fin 2816 → EReal) (wd : Fin 2816 → Fin 1024 → EReal) (l : Fin 1024) : EReal :=
  h l + Ideal.ofBits FTy.f32 1056964608#32 * ∑ x : Fin 2816, hid (rms h g) (fun k => wg k x) (fun k => wu k x) * wd x l

theorem norm_apply (x0 : Vec Ideal S768x1024 .f32) (x1 : Vec Ideal S1x1024 .f32) (r : Fin 768) (k : Fin 1024) :
    k0_pay5 x0 x1 (ix2 r k) = rms (fun k => x0 (ix2 r k)) (fun k => x1 (ix2 0 k)) k := by
  pointwise [k0_pay5, rms]

theorem res_apply (x0 : Vec Ideal S768x1024 .f32) (a : FVec Ideal S768x1024 .f32) (r : Fin 768) (l : Fin 1024) :
    k0_pay4 x0 a (ix2 r l) = x0 (ix2 r l) + Ideal.ofBits FTy.f32 1056964608#32 * a (ix2 r l) := by
  pointwise [k0_pay4]

theorem out_apply (x0 : Vec Ideal S768x1024 .f32) (x1 : Vec Ideal S1x1024 .f32) (W0 W1 : FVec Ideal S1024x2816 .bf16) (W2 : FVec Ideal S2816x1024 .bf16)
    (r : Fin 768) (l : Fin 1024) :
    out x0 x1 W0 W1 W2 (ix2 r l)
      = half (fun k => x0 (ix2 r k)) (fun k => x1 (ix2 0 k)) (fun k x => W0 (ix2 k x)) (fun k x => W1 (ix2 k x)) (fun x l => W2 (ix2 x l)) l := by
  unfold out
  rw [res_apply, acc_apply]
  unfold half
  rw [show (fun k => k0_pay5 x0 x1 (ix2 r k)) = rms (fun k => x0 (ix2 r k)) (fun k => x1 (ix2 0 k)) from funext fun k => norm_apply x0 x1 r k]

theorem wcol_apply (f : FVec Ideal S2x1024x2816 .f32) (k : Fin 1024) (x : Fin 2816) : wcol f (ix2 k x) = f (ix3 0 k x) := rfl

theorem wrow_apply (f : FVec Ideal S2x2816x1024 .f32) (x : Fin 2816) (l : Fin 1024) : wrow f (ix2 x l) = f (ix3 0 x l) := rfl

end Cert.Proof.FfnValue

end
-- ==== Proof.FfnValue.lean ====
module

public import proofs.«01_k».proof.Proof.FfnFrame
public import proofs.«01_k».proof.Proof.FfnCell
public import proofs.«01_k».proof.Proof.Gen.FfnRefIdeal.Run
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.FfnValue

open Cert.Ffn Cert.Ffn.Gen

variable (m : (ℓ : Loc nD τ sig) → Buf (Elt Ideal) ℓ)

theorem in0 (c : Dev nD) (p : Fin 33024) (l : Fin 1024) :
    (V m c main_v0 : FVec Ideal S33024x1024 .f32) (ix2 p l)
      = (m ((c : Thread nD τ).loc main_arg0) : FVec Ideal S16x2064x1024 .f32) (ix3 ⟨p.val / 2064, by omega⟩ ⟨p.val % 2064, by omega⟩ l) := by
  unfold V hostOps0
  after_results_simp
  pointwise

theorem in1 (c : Dev nD) (z : Fin 1) (l : Fin 1024) :
    (V m c main_v3 : FVec Ideal S1x1024 .f32) (ix2 z l) = (m ((c : Thread nD τ).loc main_arg1) : FVec Ideal S2x1024 .f32) (ix2 0 l) := by
  unfold V hostOps0
  after_results_simp
  pointwise

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem blk0 (c : Dev nD) (t : Fin cfg0.N) (r : Fin 768) (l : Fin 1024) (hs : 768 * t.val + r.val < 33024) :
    (iblk m c 0 t : Vec Ideal S768x1024 .f32) (ix2 r l) = (V m c main_v0 : FVec Ideal S33024x1024 .f32) (ix2 ⟨768 * t.val + r.val, hs⟩ l) := by
  have hi := idx0 t
  unfold iblk
  rw [View.read_apply]
  show V m c main_v0 _ = V m c main_v0 _
  congr 1
  funext a
  apply Fin.ext
  match a with
  | ⟨0, _⟩ => show win0_0.index t 0 * 768 + 1 * r.val = 768 * t.val + r.val; rw [hi.1]; omega
  | ⟨1, _⟩ => show win0_0.index t 1 * 1024 + 1 * l.val = l.val; rw [hi.2]; omega

theorem blk1 (c : Dev nD) (t : Fin cfg0.N) (r : Fin 1) (l : Fin 1024) :
    (iblk m c 1 t : Vec Ideal S1x1024 .f32) (ix2 r l) = (V m c main_v3 : FVec Ideal S1x1024 .f32) (ix2 r l) := by
  have hi := idx1 t
  unfold iblk
  rw [View.read_apply]
  show V m c main_v3 _ = V m c main_v3 _
  congr 1
  funext a
  apply Fin.ext
  match a with
  | ⟨0, _⟩ => show win0_1.index t 0 * 1 + 1 * r.val = r.val; rw [hi.1]; omega
  | ⟨1, _⟩ => show win0_1.index t 1 * 1024 + 1 * l.val = l.val; rw [hi.2]; omega

/-- The result as one function of the arguments: row `p` of the flattened array is row `p % 2064` of batch entry `p / 2064`. -/
def G (c : Dev nD) (p : Fin 33024) (l : Fin 1024) : EReal :=
  half (fun k => (m ((c : Thread nD τ).loc main_arg0) : FVec Ideal S16x2064x1024 .f32) (ix3 ⟨p.val / 2064, by omega⟩ ⟨p.val % 2064, by omega⟩ k))
    (fun k => (m ((c : Thread nD τ).loc main_arg1) : FVec Ideal S2x1024 .f32) (ix2 0 k))
    (fun k x => (m ((c : Thread nD τ).loc main_arg2) : FVec Ideal S2x1024x2816 .f32) (ix3 0 k x))
    (fun k x => (m ((c : Thread nD τ).loc main_arg3) : FVec Ideal S2x1024x2816 .f32) (ix3 0 k x))
    (fun x l => (m ((c : Thread nD τ).loc main_arg4) : FVec Ideal S2x2816x1024 .f32) (ix3 0 x l)) l

/-- The same as an array. -/
def A (c : Dev nD) : FVec Ideal S33024x1024 .f32 := fun i => G m c (i 0) (i 1)

theorem ex2 {p q : Nat} (i : (a : Fin 2) → Fin (![p, q] a)) : ∃ (x : Fin p) (y : Fin q), i = ix2 x y :=
  ⟨i 0, i 1, funext fun a => match a with | ⟨0, _⟩ => rfl | ⟨1, _⟩ => rfl⟩

theorem blk_out (c : Dev nD) (X : FVec Ideal S33024x1024 .f32) (t : Fin cfg0.N) (r : Fin 768) (l : Fin 1024) (hs : 768 * t.val + r.val < 33024) :
    ((cfg0.win 2).blk t).view.read (Elt Ideal) X (ix2 r l) = X (ix2 ⟨768 * t.val + r.val, hs⟩ l) := by
  have hi := idx2 t
  rw [View.read_apply]
  show X _ = X _
  congr 1
  funext a
  apply Fin.ext
  match a with
  | ⟨0, _⟩ => show win0_2.index t 0 * 768 + 1 * r.val = 768 * t.val + r.val; rw [hi.1]; omega
  | ⟨1, _⟩ => show win0_2.index t 1 * 1024 + 1 * l.val = l.val; rw [hi.2]; omega

theorem cell_congr {h h' g g' : Fin 1024 → EReal} {wg wg' wu wu' : Fin 1024 → Fin 2816 → EReal} {wd wd' : Fin 2816 → Fin 1024 → EReal} (l : Fin 1024)
    (e0 : ∀ k, h k = h' k) (e1 : ∀ k, g k = g' k) (e2 : ∀ k x, wg k x = wg' k x) (e3 : ∀ k x, wu k x = wu' k x) (e4 : ∀ x l, wd x l = wd' x l) :
    half h g wg wu wd l = half h' g' wg' wu' wd' l := by
  obtain rfl := funext e0; obtain rfl := funext e1; obtain rfl := funext fun k => funext (e2 k); obtain rfl := funext fun k => funext (e3 k)
  obtain rfl := funext fun k => funext (e4 k)
  rfl

/-- What point `t` leaves, at an index, as a function of the arguments. -/
theorem out_iblk (c : Dev nD) (t : Fin cfg0.N) (r : Fin 768) (l : Fin 1024) (hs : 768 * t.val + r.val < 33024) :
    out (F := Ideal) (iblk m c 0 t) (iblk m c 1 t) (wcol (V m c main_arg2)) (wcol (V m c main_arg3)) (wrow (V m c main_arg4)) (ix2 r l)
      = G m c ⟨768 * t.val + r.val, hs⟩ l := by
  refine (out_apply _ _ _ _ _ r l).trans ?_
  unfold G
  exact cell_congr l (fun k => (blk0 m c t r k hs).trans (in0 m c _ k)) (fun k => (blk1 m c t 0 k).trans (in1 m c 0 k))
    (fun k x => (wcol_apply _ k x).trans (congrFun (V_main_arg2 m c) _)) (fun k x => (wcol_apply _ k x).trans (congrFun (V_main_arg3 m c) _))
    (fun x l => (wrow_apply _ x l).trans (congrFun (V_main_arg4 m c) _))

/-- Point `t` writes its block of the result. -/
theorem flushed_eq (c : Dev nD) (t : Fin cfg0.N) :
    (dats m 0 c).flushed 2 t = ((cfg0.win 2).blk t).view.read (Elt Ideal) (A m c) := by
  have hN : t.val < 43 := Nat.lt_of_lt_of_eq t.isLt N_0
  show (cfg0.win 2).cut (grid0.coords t) ((dats m 0 c).after 2 t) = _
  rw [after0_2]
  funext j
  obtain ⟨r, l, rfl⟩ : ∃ (r : Fin 768) (l : Fin 1024), j = ix2 r l := ex2 j
  have hs : 768 * t.val + r.val < 33024 := by omega
  exact (out_iblk m c t r l hs).trans (blk_out c (A m c) t r l hs).symm

theorem cover (i : S33024x1024.Idx) : ∃ t : Fin cfg0.N, (cfg0.win 2).flush t = true ∧ i ∈ ((cfg0.win 2).blk t).view.set := by
  have h0 : (i 0 : Nat) < 33024 := (i 0).isLt
  have h1 : (i 1 : Nat) < 1024 := (i 1).isLt
  have hN : cfg0.N = 43 := N_0
  let t : Fin cfg0.N := ⟨(i 0 : Nat) / 768, by omega⟩
  refine ⟨t, flush0_2 t, ?_⟩
  have hi := idx2 t
  have ht : t.val = (i 0 : Nat) / 768 := rfl
  show i ∈ ((View.whole main_v4).slice (win0_2.rect t)).set
  rw [View.set_slice_whole, Rect.mem_set_unit]
  intro a
  match a with
  | ⟨0, _⟩ => show win0_2.index t 0 * 768 ≤ (i 0 : Nat) ∧ (i 0 : Nat) < win0_2.index t 0 * 768 + 768; rw [hi.1]; omega
  | ⟨1, _⟩ => show win0_2.index t 1 * 1024 ≤ (i 1 : Nat) ∧ (i 1 : Nat) < win0_2.index t 1 * 1024 + 1024; rw [hi.2]; omega

theorem final (c : Dev nD) : (dats m 0 c).arrAt 2 cfg0.N = A m c :=
  (dats m 0 c).arrAt_eq_of_cover 2 (A m c) (fun t _ => flushed_eq m c t) cover

/-- A row of the flattened array. -/
theorem flat_apply (x : FVec Ideal S16x2064x1024 .f32) (h : S16x2064x1024.ShapeCasts S33024x1024) (p : Fin 33024) (l : Fin 1024) :
    shapeCast S33024x1024 x h (ix2 p l) = x (ix3 ⟨p.val / 2064, by omega⟩ ⟨p.val % 2064, by omega⟩ l) := by
  pointwise

/-- The reference's result is the same function of its arguments. -/
theorem ref_eq (m' : (ℓ : Loc Cert.FfnRefIdeal.nD Cert.FfnRefIdeal.τ Cert.FfnRefIdeal.sig) → Buf (Elt Ideal) ℓ) (c : Dev nD)
    (e0 : m' ((c.tc : Thread _ _).loc Cert.FfnRefIdeal.main_arg0) = m ((c : Thread nD τ).loc main_arg0))
    (e1 : m' ((c.tc : Thread _ _).loc Cert.FfnRefIdeal.main_arg1) = m ((c : Thread nD τ).loc main_arg1))
    (e2 : m' ((c.tc : Thread _ _).loc Cert.FfnRefIdeal.main_arg2) = m ((c : Thread nD τ).loc main_arg2))
    (e3 : m' ((c.tc : Thread _ _).loc Cert.FfnRefIdeal.main_arg3) = m ((c : Thread nD τ).loc main_arg3))
    (e4 : m' ((c.tc : Thread _ _).loc Cert.FfnRefIdeal.main_arg4) = m ((c : Thread nD τ).loc main_arg4)) :
    Cert.FfnRefIdeal.Value.res_out0 m' c = A m c := by
  funext i
  obtain ⟨p, l, rfl⟩ := ex2 (p := 33024) (q := 1024) i
  unfold Cert.FfnRefIdeal.Value.res_out0 Cert.FfnRefIdeal.Value.res_main_v29
  rw [e0, e1, e2, e3, e4]
  show _ = G m c p l
  refine (flat_apply _ _ p l).trans ?_
  unfold G
  generalize (⟨p.val / 2064, _⟩ : Fin 16) = b
  generalize (⟨p.val % 2064, _⟩ : Fin 2064) = s
  pointwise [ rms, half, hid, Ideal.logistic]

end Cert.Proof.FfnValue

end
-- ==== Proof.FfnClaims.lean ====
/- The claims about `Ffn`. The program and its idealization have the same text, so one run serves both: it is stated of the
   program at any float values, and carried over. -/
module

public import proofs.«01_k».proof.Defs
public import proofs.«01_k».proof.Proof.FfnValue
public import proofs.«01_k».proof.Proof.Gen.Ffn
public import proofs.«01_k».proof.Proof.Gen.FfnIdeal
public import proofs.«01_k».proof.Proof.Gen.FfnRefIdeal
public import Idealize.ShloMosaic.Adequacy
public import Idealize.ShloMosaic.Init

@[expose] public section

set_option maxRecDepth 16384

noncomputable section

namespace Cert.Proof.FfnValue

open Idealize.ShloMosaic Idealize.ShloMosaic.TcCoe Idealize.SL.Sem
open Idealize.ShloMosaic.Pipeline (Dat)

section Run

open Cert.Ffn Cert.Ffn.Gen

variable {F : FTy → Type} [FloatOps F]

variable (m : (ℓ : Loc nD τ sig) → Buf (Elt F) ℓ) (ρ : Dev nD → PrngReg)

/-- Every execution ends with the result's array as the blocks make it, the arguments unchanged and the counters at zero. -/
theorem run_blocks : θ_run (defs (F := F)) (onTc (τ := τ) (main (F := F))) ⟨m, fun _ => 0, ρ⟩ (fun r =>
      (∀ c : Dev nD, r.2.mem ((c.tc : Thread nD τ).loc main_v4) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Run

/-! The idealization's definitions are the program's. -/

section Same

variable {F : FTy → Type} [FloatOps F]

theorem same_defs₀ : Cert.FfnIdeal.defs₀ (F := F) = Cert.Ffn.defs₀ (F := F) := by
  unfold Cert.FfnIdeal.defs₀ Cert.Ffn.defs₀
  congr 1
  funext l x
  match l, x with
  | 0, (t, s) => rfl

theorem same_defs : Cert.FfnIdeal.defs (F := F) = Cert.Ffn.defs (F := F) := by
  unfold Cert.FfnIdeal.defs Cert.Ffn.defs
  rw [same_defs₀]
  rfl

theorem same_main : Cert.FfnIdeal.main (F := F) = Cert.Ffn.main (F := F) := rfl

end Same

theorem run_ideal (m : (ℓ : Loc Cert.Ffn.nD Cert.Ffn.τ Cert.Ffn.sig) → Buf (Elt Ideal) ℓ) (ρ : Dev Cert.Ffn.nD → PrngReg)
    {Q : PUnit × MemSt Cert.Ffn.nD Cert.Ffn.τ Cert.Ffn.sig (Elt Ideal) → Prop}
    (h : θ_run (Cert.Ffn.defs (F := Ideal)) (onTc (τ := Cert.Ffn.τ) (Cert.Ffn.main (F := Ideal))) ⟨m, fun _ => 0, ρ⟩ Q) :
    θ_run (Cert.FfnIdeal.defs (F := Ideal)) (onTc (τ := Cert.FfnIdeal.τ) (Cert.FfnIdeal.main (F := Ideal))) ⟨m, fun _ => 0, ρ⟩ Q := by
  rw [show Cert.FfnIdeal.defs (F := Ideal) = Cert.Ffn.defs (F := Ideal) from same_defs]
  exact h

theorem frame_p : Cert.quiescent_Ffn (hFfn := Cert.Ffn.Gen.facts) :=
  fun m ρ _ => (θ_run Cert.Ffn.defs _ _).mono (fun _ h => ⟨fun c => (h.1 c).2, h.2⟩) (run_blocks (F := Bits) m ρ)

theorem frame_pi : Cert.quiescent_FfnIdeal (hFfnIdeal := Cert.FfnIdeal.Gen.facts) :=
  fun m ρ _ => run_ideal m ρ ((θ_run Cert.Ffn.defs _ _).mono (fun _ h => ⟨fun c => (h.1 c).2, h.2⟩) (run_blocks (F := Ideal) m ρ))

theorem frame_ri : Cert.quiescent_FfnRefIdeal (hFfnRefIdeal := Cert.FfnRefIdeal.Gen.facts) :=
  fun m ρ _ => (θ_run Cert.FfnRefIdeal.defs _ _).mono (fun r h => ⟨fun c => (h c).2, sem_eq_zero_of_no_sems (by decide) r.2⟩)
    (Cert.FfnRefIdeal.Value.run (F := Ideal) m ρ)

/-- Both results are `A`: the kernel's by its blocks, the reference's by its composed term. -/
theorem algebraic : Cert.algebraic_FfnIdeal_FfnRefIdeal (hFfnIdeal := Cert.FfnIdeal.Gen.facts) (hFfnRefIdeal := Cert.FfnRefIdeal.Gen.facts) :=
  fun m ρ m' ρ' _ hag => ⟨fun c => A m c,
    run_ideal m ρ ((θ_run Cert.Ffn.defs _ _).mono (fun _ h c => ⟨(h.1 c).1.trans (final m c), (h.1 c).2⟩) (run_blocks (F := Ideal) m ρ)),
    (θ_run Cert.FfnRefIdeal.defs _ _).mono (fun _ h c =>
        have ⟨e0, e1, e2, e3, e4⟩ := hag c
        ⟨(h c).1.trans (ref_eq m m' c e0 e1 e2 e3 e4), (h c).2⟩)
      (Cert.FfnRefIdeal.Value.run (F := Ideal) m' ρ')⟩

end Cert.Proof.FfnValue

end
-- ==== Proof.FfnFirstRuns.lean ====
/- What the runs of `FfnFirst`'s body share: the arrays as the launch finds them, the windows' blocks, the branch conditions in closed
   form over the grid points, and the memrefs of the windows and of the scratch. -/
module

public import proofs.«01_k».proof.Proof.Gen.FfnFirst.Launch
public import proofs.«01_k».proof.Proof.Gen.FfnFirst.Skeleton
public import proofs.«01_k».proof.Proof.Gen.FfnFirst.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.FfnFirstValue

open Cert.FfnFirst Cert.FfnFirst.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin cfg0.N, cond0_0 (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := (Scalar.cmpi .ne (Scalar.extui (Scalar.xori (Scalar.cmpi .eq (BitVec.ofNat 32 (i 1).val) 0#32) 1#1)) 0#32) = 1#1
/-- It holds at the points whose coordinates have 1 ≤ i1 — decided over the grid. -/
theorem hcond0_1 : ∀ t : Fin cfg0.N, cond0_1 (grid0.coords t) ↔ 1 ≤ t.val % 3 :=
  (by decide +kernel : ∀ t : Fin grid0.N, cond0_1 (grid0.coords t) ↔ 1 ≤ t.val % 3)

/-- The condition of the body's `scf.if` 2 (`k0_h3`), from the grid coordinates (the skeleton's scalar
    chain substituted). -/
abbrev cond0_2 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_2 : ∀ t : Fin cfg0.N, cond0_2 (grid0.coords t) ↔ t.val % 48 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_2, e0, e1]
    word_cmp
   : ∀ t : Fin grid0.N, cond0_2 (grid0.coords t) ↔ t.val % 48 = 0)

/-- The condition of the body's `scf.if` 3 (`k0_h4`), from the grid coordinates (the skeleton's scalar
    chain substituted). -/
abbrev cond0_3 (i : grid0.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond0_3 : ∀ t : Fin cfg0.N, cond0_3 (grid0.coords t) ↔ 1 ≤ t.val :=
  (by decide +kernel : ∀ t : Fin grid0.N, cond0_3 (grid0.coords t) ↔ 1 ≤ t.val)

/-! ## The kernel body on any staging memrefs: a subtype the run finds -/

/-- Each window's current staging memref at point `t`, spelled as the pipeline passes it (`bodyAt0`), and its wholeness. -/
abbrev ms0_0 (t : Fin cfg0.N) : Memref sig .tc .vmem S1x688x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x688x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S2x1024x256 .f32 := Memref.whole cc0_scratch3
abbrev scM0_4 : Memref sig .tc .vmem S2x1024x256 .f32 := Memref.whole cc0_scratch4
abbrev scM0_5 : Memref sig .tc .vmem S2x256x1024 .f32 := Memref.whole cc0_scratch5
abbrev scM0_6 : Memref sig .tc .vmem S688x1024 .f32 := Memref.whole cc0_scratch7
abbrev scM0_7 : Memref sig .tc .vmem S688x1024 .bf16 := Memref.whole cc0_scratch8
abbrev scM0_8 : Memref sig .tc .vmem S688x1024 .f32 := Memref.whole cc0_scratch9
/-- The scratch `arg9` the kernel carries between points, as a view: what it holds is stated through it. -/
abbrev VS0_0 : View sig .tc .vmem S1024x2816 .bf16 := scM0_0.view
/-- The scratch `arg10` the kernel carries between points, as a view: what it holds is stated through it. -/
abbrev VS0_1 : View sig .tc .vmem S1024x2816 .bf16 := scM0_1.view
/-- The scratch `arg11` the kernel carries between points, as a view: what it holds is stated through it. -/
abbrev VS0_2 : View sig .tc .vmem S2816x1024 .bf16 := scM0_2.view
/-- The operands left in HBM that the body copies into scratch itself, whole. -/
abbrev hbM0_0 : Memref sig .tc .hbm S2x1024x2816 .f32 := Memref.whole main_arg3
abbrev hbM0_1 : Memref sig .tc .hbm S2x1024x2816 .f32 := Memref.whole main_arg4
abbrev hbM0_2 : Memref sig .tc .hbm S2x2816x1024 .f32 := Memref.whole main_arg5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg3, main_arg4, main_arg5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4) ∗ hbPt0 c hbM0_2 (V m c main_arg5)) := by
  rw [BI.bigSep_eq_bigSepL_of_eq [main_arg3, main_arg4, main_arg5] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4) ∗ hbPt0 c hbM0_2 (V m c main_arg5))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.Proof.FfnFirstValue

end
-- ==== Proof.FfnFirstSpec.lean ====
module

public import proofs.«01_k».proof.Proof.FfnFirstRuns
public import proofs.«01_k».proof.Proof.FfnRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnFirstValue

open Cert.FfnFirst Cert.FfnFirst.Gen Cert.Proof.FfnRead

variable {F : FTy → Type} [FloatOps F]

/-! What one call of the body computes, as functions of the block and the weights. -/

/-- Columns `256 q … 256 q + 255`. -/
def cols (W : FVec F S1024x2816 .bf16) (q : ℕ) (h : 256 * q + 256 ≤ 2816) : FVec F S1024x256 .bf16 :=
  fun j => W (ix2 (j 0) ⟨256 * q + (j 1).val, Nat.lt_of_lt_of_le (Nat.add_lt_add_left (j 1).isLt _) h⟩)

/-- Rows `256 q … 256 q + 255`. -/
def rows (W : FVec F S2816x1024 .bf16) (q : ℕ) (h : 256 * q + 256 ≤ 2816) : FVec F S256x1024 .bf16 :=
  fun j => W (ix2 ⟨256 * q + (j 0).val, Nat.lt_of_lt_of_le (Nat.add_lt_add_left (j 0).isLt _) h⟩ (j 1))

/-- A layer's weight with the hidden features along columns, converted. -/
def wcol (f : FVec F S2x1024x2816 .f32) : FVec F S1024x2816 .bf16 :=
  truncf .bf16 (fun j => f (ix3 (0 : Fin 2) (j 0) (j 1)) : FVec F S1024x2816 .f32) bitsLt_bf16_f32

/-- A layer's weight with the hidden features along rows, converted. -/
def wrow (f : FVec F S2x2816x1024 .f32) : FVec F S2816x1024 .bf16 :=
  truncf .bf16 (fun j => f (ix3 (0 : Fin 2) (j 0) (j 1)) : FVec F S2816x1024 .f32) bitsLt_bf16_f32

/-- A chunk of hidden features applied: gated, and multiplied back. -/
def chunk (n : FVec F S688x1024 .bf16) (g : FVec F S1024x256 .bf16) (n' : FVec F S688x1024 .bf16) (u : FVec F S1024x256 .bf16)
    (w : FVec F S256x1024 .bf16) : FVec F S688x1024 .f32 :=
  matmul dot_S688x256_S256x1024_S688x1024_1_0_0_1_n_n none (truncf .bf16 (mulf (mulf
      (matmul dot_S688x1024_S1024x256_S688x256_1_0_0_1_n_n none n g (constant S688x256 .f32 0x00000000#32))
      (logistic (matmul dot_S688x1024_S1024x256_S688x256_1_0_0_1_n_n none n g (constant S688x256 .f32 0x00000000#32))))
      (matmul dot_S688x1024_S1024x256_S688x256_1_0_0_1_n_n none n' u (constant S688x256 .f32 0x00000000#32))) bitsLt_bf16_f32)
    w (constant S688x1024 .f32 0x00000000#32)

/-- The sum over the first `q + 1` chunks. -/
def acc (n : FVec F S688x1024 .bf16) (W0 W1 : FVec F S1024x2816 .bf16) (W2 : FVec F S2816x1024 .bf16) :
    (q : ℕ) → 256 * q + 256 ≤ 2816 → FVec F S688x1024 .f32
  | 0, h => chunk n (cols W0 0 h) n (cols W1 0 h) (rows W2 0 h)
  | q + 1, h => addf (acc n W0 W1 W2 q (by omega)) (chunk n (cols W0 (q + 1) h) n (cols W1 (q + 1) h) (rows W2 (q + 1) h))

theorem first_congr {n n' N : FVec F S688x1024 .bf16} {g u : FVec F S1024x256 .bf16} {w : FVec F S256x1024 .bf16}
    {W0 W1 : FVec F S1024x2816 .bf16} {W2 : FVec F S2816x1024 .bf16} {h : 256 * 0 + 256 ≤ 2816}
    (hn : n = N) (hn' : n' = N) (hg : g = cols W0 0 h) (hu : u = cols W1 0 h) (hw : w = rows W2 0 h) :
    chunk n g n' u w = acc N W0 W1 W2 0 h := by subst hn hn' hg hu hw; rfl

theorem step_congr {n n' N : FVec F S688x1024 .bf16} {g u : FVec F S1024x256 .bf16} {w : FVec F S256x1024 .bf16}
    {W0 W1 : FVec F S1024x2816 .bf16} {W2 : FVec F S2816x1024 .bf16} {q : ℕ} {h : 256 * (q + 1) + 256 ≤ 2816}
    {a : FVec F S688x1024 .f32} (ha : a = acc N W0 W1 W2 q (by omega))
    (hn : n = N) (hn' : n' = N) (hg : g = cols W0 (q + 1) h) (hu : u = cols W1 (q + 1) h) (hw : w = rows W2 (q + 1) h) :
    addf a (chunk n g n' u w) = acc N W0 W1 W2 (q + 1) h := by subst hn hn' hg hu hw ha; rfl

theorem conv_cols {v : FVec F S1x1024x256 .f32} {w : FVec F S1024x256 .f32} {f : FVec F S2x1024x2816 .f32} {q : ℕ}
    {h : 256 * q + 256 ≤ 2816} (hv : shapeCast S1024x256 v shapeCasts_S1x1024x256_S1024x256 = w)
    (hw : w = fun j => f (ix3 (0 : Fin 2) (j 0) ⟨256 * q + (j 1).val, Nat.lt_of_lt_of_le (Nat.add_lt_add_left (j 1).isLt _) h⟩)) :
    truncf .bf16 (shapeCast S1024x256 v shapeCasts_S1x1024x256_S1024x256) bitsLt_bf16_f32 = cols (wcol f) q h := by
  rw [hv, hw]; rfl

theorem conv_rows {v : FVec F S1x256x1024 .f32} {w : FVec F S256x1024 .f32} {f : FVec F S2x2816x1024 .f32} {q : ℕ}
    {h : 256 * q + 256 ≤ 2816} (hv : shapeCast S256x1024 v shapeCasts_S1x256x1024_S256x1024 = w)
    (hw : w = fun j => f (ix3 (0 : Fin 2) ⟨256 * q + (j 0).val, Nat.lt_of_lt_of_le (Nat.add_lt_add_left (j 0).isLt _) h⟩ (j 1))) :
    truncf .bf16 (shapeCast S256x1024 v shapeCasts_S1x256x1024_S256x1024) bitsLt_bf16_f32 = rows (wrow f) q h := by
  rw [hv, hw]; rfl

/-- Where a chunk's columns lie. -/
theorem cols_emb (W : FVec F S1024x2816 .bf16) (q : ℕ) (h : 256 * q + 256 ≤ 2816) {off size : Fin 2 → ℕ}
    (inb : ∀ a, off a + size a ≤ S1024x2816.size a) (hs : size = ![1024, 256]) (h0 : off 0 = 0) (h1 : off 1 = 256 * q) (x : (Rect.unit (s := S1024x2816) off size inb).shape.Idx)
    (w : (Rect.unit (s := S1024x2816) off size inb).shape.Idx → F .bf16) (hw : ∀ j : S1024x256.Idx, w (fun a => ⟨(j a).val, by subst hs; exact (j a).isLt⟩) = cols W q h j) :
    w x = W ((Rect.unit (s := S1024x2816) off size inb).emb x) := by
  subst hs
  refine (hw x).trans (congrArg W ?_)
  funext a
  match a with
  | ⟨0, _⟩ => exact Fin.ext (by show (x 0).val = off 0 + 1 * (x 0).val; omega)
  | ⟨1, _⟩ => exact Fin.ext (by show 256 * q + (x 1).val = off 1 + 1 * (x 1).val; omega)

/-- Where a chunk's rows lie. -/
theorem rows_emb (W : FVec F S2816x1024 .bf16) (q : ℕ) (h : 256 * q + 256 ≤ 2816) {off size : Fin 2 → ℕ}
    (inb : ∀ a, off a + size a ≤ S2816x1024.size a) (hs : size = ![256, 1024]) (h0 : off 0 = 256 * q) (h1 : off 1 = 0) (x : (Rect.unit (s := S2816x1024) off size inb).shape.Idx)
    (w : (Rect.unit (s := S2816x1024) off size inb).shape.Idx → F .bf16) (hw : ∀ j : S256x1024.Idx, w (fun a => ⟨(j a).val, by subst hs; exact (j a).isLt⟩) = rows W q h j) :
    w x = W ((Rect.unit (s := S2816x1024) off size inb).emb x) := by
  subst hs
  refine (hw x).trans (congrArg W ?_)
  funext a
  match a with
  | ⟨0, _⟩ => exact Fin.ext (by show 256 * q + (x 0).val = off 0 + 1 * (x 0).val; omega)
  | ⟨1, _⟩ => exact Fin.ext (by show (x 1).val = off 1 + 1 * (x 1).val; omega)

/-- A load of a chunk's columns from the resident weight. -/
theorem ld_cols {M : Memref sig .tc .vmem S1024x2816 .bf16} (hM : M.IsWhole) (W : FVec F S1024x2816 .bf16) (q : ℕ)
    (h : 256 * q + 256 ≤ 2816) {off : Fin 2 → ℕ} (inb : ∀ a, off a + S1024x256.size a ≤ S1024x2816.size a) (h0 : off 0 = 0) (h1 : off 1 = 256 * q) :
    M.view.readAt (Elt F) (Rect.unit (s := S1024x2816) off S1024x256.size inb).toLoadRect (hM.unread W) = cols W q h := by
  rw [View.readAt_eq_ld, hM.read_unread]
  funext x
  exact (cols_emb W q h inb rfl h0 h1 x (cols W q h) (fun _ => rfl)).symm

/-- A load of a chunk's rows from the resident weight. -/
theorem ld_rows {M : Memref sig .tc .vmem S2816x1024 .bf16} (hM : M.IsWhole) (W : FVec F S2816x1024 .bf16) (q : ℕ)
    (h : 256 * q + 256 ≤ 2816) {off : Fin 2 → ℕ} (inb : ∀ a, off a + S256x1024.size a ≤ S2816x1024.size a) (h0 : off 0 = 256 * q) (h1 : off 1 = 0) :
    M.view.readAt (Elt F) (Rect.unit (s := S2816x1024) off S256x1024.size inb).toLoadRect (hM.unread W) = rows W q h := by
  rw [View.readAt_eq_ld, hM.read_unread]
  funext x
  exact (rows_emb W q h inb rfl h0 h1 x (rows W q h) (fun _ => rfl)).symm

/-- The rows of the first block of a batch entry: the meta rows, then the block's own rows. -/
def xtop (x0 : FVec F S1x688x1024 .f32) (x1 : FVec F S16x1024 .f32) : FVec F S688x1024 .f32 :=
  fun j => if h : (j 0).val < 16 then x1 (ix2 ⟨(j 0).val, h⟩ (j 1))
    else x0 (ix3 0 ⟨(j 0).val - 16, Nat.lt_of_le_of_lt (Nat.sub_le _ _) (j 0).isLt⟩ (j 1))

/-- The rows a block's feed-forward part is applied to: block `z` of a batch entry. -/
def xin (z : ℕ) (x0 : FVec F S1x688x1024 .f32) (x1 : FVec F S16x1024 .f32) : FVec F S688x1024 .f32 :=
  if z = 0 then xtop x0 x1 else k0_pay3 x0

theorem xtop_meta (x0 : FVec F S1x688x1024 .f32) (x1 : FVec F S16x1024 .f32) {off size : Fin 2 → ℕ}
    (inb : ∀ a, off a + size a ≤ S688x1024.size a) (hs : size = ![16, 1024]) (h0 : off 0 = 0) (h1 : off 1 = 0)
    (x : (Rect.unit (s := S688x1024) off size inb).shape.Idx)
    (w : (Rect.unit (s := S688x1024) off size inb).shape.Idx → F .f32)
    (hw : ∀ j : S16x1024.Idx, w (fun a => ⟨(j a).val, by subst hs; exact (j a).isLt⟩) = x1 j) :
    w x = xtop x0 x1 ((Rect.unit (s := S688x1024) off size inb).emb x) := by
  subst hs
  refine (hw x).trans ?_
  have hx : (x 0).val < 16 := (x 0).isLt
  have e : (((Rect.unit (s := S688x1024) off ![16, 1024] inb).emb x) 0).val = (x 0).val := by
    show off 0 + 1 * (x 0).val = _; omega
  unfold xtop
  rw [dif_pos (by rw [e]; exact hx)]
  congr 1
  funext a
  match a with
  | ⟨0, _⟩ => exact Fin.ext e.symm
  | ⟨1, _⟩ => exact Fin.ext (by show (x 1).val = off 1 + 1 * (x 1).val; omega)

theorem xtop_rows (x0 : FVec F S1x688x1024 .f32) (x1 : FVec F S16x1024 .f32) {off size : Fin 2 → ℕ}
    (inb : ∀ a, off a + size a ≤ S688x1024.size a) (hs : size = ![672, 1024]) (h0 : off 0 = 16) (h1 : off 1 = 0)
    (x : (Rect.unit (s := S688x1024) off size inb).shape.Idx)
    (w : (Rect.unit (s := S688x1024) off size inb).shape.Idx → F .f32)
    (hw : ∀ j : S672x1024.Idx, w (fun a => ⟨(j a).val, by subst hs; exact (j a).isLt⟩)
      = x0 (ix3 0 ⟨(j 0).val, Nat.lt_of_lt_of_le (j 0).isLt (by decide)⟩ (j 1))) :
    w x = xtop x0 x1 ((Rect.unit (s := S688x1024) off size inb).emb x) := by
  subst hs
  refine (hw x).trans ?_
  have e : (((Rect.unit (s := S688x1024) off ![672, 1024] inb).emb x) 0).val = 16 + (x 0).val := by
    show off 0 + 1 * (x 0).val = _; omega
  unfold xtop
  rw [dif_neg (by rw [e]; omega)]
  congr 1
  funext a
  match a with
  | ⟨0, _⟩ => rfl
  | ⟨1, _⟩ => exact Fin.ext (by show (x 0).val = (off 0 + 1 * (x 0).val) - 16; omega)
  | ⟨2, _⟩ => exact Fin.ext (by show (x 1).val = off 1 + 1 * (x 1).val; omega)

/-- The block's own rows that follow the meta rows, as loaded. -/
theorem ld_rows_top {M : Memref sig .tc .vmem S1x688x1024 .f32} (hM : M.IsWhole) (x0 : FVec F S1x688x1024 .f32) {off : Fin 3 → ℕ}
    (inb : ∀ a, off a + S1x672x1024.size a ≤ S1x688x1024.size a) (h : ∀ a, off a = 0) (hc : S1x672x1024.ShapeCasts S672x1024) (j : S672x1024.Idx) :
    shapeCast S672x1024 (M.view.readAt (Elt F) (Rect.unit (s := S1x688x1024) off S1x672x1024.size inb).toLoadRect (hM.unread x0)) hc j
      = x0 (ix3 0 ⟨(j 0).val, Nat.lt_of_lt_of_le (j 0).isLt (by decide)⟩ (j 1)) := by
  have hj : j = ix2 (j 0) (j 1) := by funext a; match a with | ⟨0, _⟩ => rfl | ⟨1, _⟩ => rfl
  rw [View.readAt_eq_ld, hM.read_unread]
  refine (congrArg _ hj).trans ((ValueIdx.shapeCast_1ab_ab_apply (a := 672) (b := 1024) _ hc (j 0) (j 1)).trans ?_)
  show x0 _ = x0 _
  congr 1
  have e0 : off 0 = 0 := h 0
  have e1 : off 1 = 0 := h 1
  have e2 : off 2 = 0 := h 2
  funext a
  match a with
  | ⟨0, _⟩ => exact Fin.ext (by show off 0 + 1 * 0 = 0; omega)
  | ⟨1, _⟩ => exact Fin.ext (by show off 1 + 1 * (j 0).val = (j 0).val; omega)
  | ⟨2, _⟩ => exact Fin.ext (by show off 2 + 1 * (j 1).val = (j 1).val; omega)

/-- A whole load of a buffer all of whose rows were stored. -/
theorem read_filled {s : Shape} {e : EltTy} (v : View sig .tc .vmem s e) {L : List (View.Piece (Elt F) s e)} {D : s.Idx → Elt F e} {a : Fin s.rank}
    {off : Fin s.rank → ℕ} (inb : ∀ b, off b + s.size b ≤ s.size b) (h0 : ∀ b, off b = 0)
    (h : Filled v v.junk L D a (s.size a)) : v.readCov L (Rect.unit off s.size inb).toLoadRect = D := by
  show v.readAt (Elt F) (Rect.unit off s.size inb).toLoadRect (v.writes (Elt F) v.junk L) = D
  rw [View.readAt_eq_ld, filled_all h]
  exact View.ld_unit_zero (funext h0) inb D

/-- The scratch of a first block, read whole after its two stores. -/
theorem read_top {M2 : Memref sig .tc .vmem S1x688x1024 .f32} (h2 : M2.IsWhole) {M3 : Memref sig .tc .vmem S16x1024 .f32} (h3 : M3.IsWhole)
    (v : View sig .tc .vmem S688x1024 .f32) (x0 : FVec F S1x688x1024 .f32) (x1 : FVec F S16x1024 .f32) {z : ℕ} (hz : z = 0)
    (inb : ∀ a, (![0, 0] : Fin 2 → ℕ) a + S688x1024.size a ≤ S688x1024.size a)
    (inb1 : ∀ a, (![0, 0] : Fin 2 → ℕ) a + S16x1024.size a ≤ S688x1024.size a)
    (inb2 : ∀ a, (![16, 0] : Fin 2 → ℕ) a + S672x1024.size a ≤ S688x1024.size a)
    (inb3 : ∀ a, (![0, 0] : Fin 2 → ℕ) a + S16x1024.size a ≤ S16x1024.size a)
    (inb4 : ∀ a, (![0, 0, 0] : Fin 3 → ℕ) a + S1x672x1024.size a ≤ S1x688x1024.size a) :
    v.readCov (Val := Elt F) [⟨Rect.unit (s := S688x1024) ![16, 0] S672x1024.size inb2, k0_pay2 (M2.view.readAt (Elt F) (Rect.unit (s := S1x688x1024) ![0, 0, 0] S1x672x1024.size inb4).toLoadRect (h2.unread x0))⟩,
        ⟨Rect.unit (s := S688x1024) ![0, 0] S16x1024.size inb1, k0_pay1 (M3.view.readAt (Elt F) (Rect.unit (s := S16x1024) ![0, 0] S16x1024.size inb3).toLoadRect (h3.unread x1))⟩]
      (Rect.unit (s := S688x1024) ![0, 0] S688x1024.size inb).toLoadRect = xin z x0 x1 := by
  unfold xin
  rw [if_pos hz]
  refine read_filled v inb (by decide) (a := (0 : Fin 2)) ?_
  refine filled_cons (n := 16) 688 ?_ (fun x => xtop_rows x0 x1 _ rfl (by decide) (by decide) x _ (fun j => ?_)) (by decide) (by decide) (by decide)
  · refine filled_cons (n := 0) 16 (filled_nil _ _ _ _) (fun x => xtop_meta x0 x1 _ rfl (by decide) (by decide) x _ (fun j => ?_)) (by decide) (by decide) (by decide)
    rw [load_whole h3 _ _ (by decide)]
    simp only [k0_pay1, Idealize.ShloMosaic.shapeCast_self]
    rfl
  · simp only [k0_pay2, Idealize.ShloMosaic.shapeCast_self]
    exact ld_rows_top h2 x0 _ (by decide) _ j

/-- The scratch of a later block, read back. -/
theorem read_rest {M2 : Memref sig .tc .vmem S1x688x1024 .f32} (h2 : M2.IsWhole)
    (v : View sig .tc .vmem S688x1024 .f32) (x0 : FVec F S1x688x1024 .f32) (x1 : FVec F S16x1024 .f32) {z : ℕ} (hz : z ≠ 0)
    (inb : ∀ a, (![0, 0] : Fin 2 → ℕ) a + S688x1024.size a ≤ S688x1024.size a)
    (inb4 : ∀ a, (![0, 0, 0] : Fin 3 → ℕ) a + S1x688x1024.size a ≤ S1x688x1024.size a) :
    v.readCov (Val := Elt F) [⟨Rect.unit (s := S688x1024) ![0, 0] S688x1024.size inb, k0_pay3 (M2.view.readAt (Elt F) (Rect.unit (s := S1x688x1024) ![0, 0, 0] S1x688x1024.size inb4).toLoadRect (h2.unread x0))⟩]
      (Rect.unit (s := S688x1024) ![0, 0] S688x1024.size inb).toLoadRect = xin z x0 x1 := by
  unfold xin
  rw [if_neg hz]
  refine back _ _ _ _ _ ?_
  rw [load_whole h2 _ _ (by decide)]

theorem norm_congr {a b : FVec F S688x1024 .f32} {g h : FVec F S1x1024 .f32} (ha : a = b) (hg : g = h) : k0_pay8 a g = k0_pay8 b h := by
  subst ha hg; rfl

theorem norm_congr' {a b : FVec F S688x1024 .f32} {g h : FVec F S1x1024 .f32} (ha : a = b) (hg : g = h) : k0_pay59 a g = k0_pay8 b h := by
  subst ha hg; rfl

theorem res_congr {a b c d : FVec F S688x1024 .f32} (ha : a = b) (hc : c = d) : k0_pay7 a c = k0_pay7 b d := by
  subst ha hc; rfl

/-- The block the body leaves, from the block it reads, the meta rows, the gain and the converted weights. -/
def out (z : ℕ) (x0 : FVec F S1x688x1024 .f32) (x1 : FVec F S16x1024 .f32) (x2 : FVec F S1x1024 .f32) (W0 W1 : FVec F S1024x2816 .bf16) (W2 : FVec F S2816x1024 .bf16) :
    FVec F S1x688x1024 .f32 :=
  k0_pay7 (xin z x0 x1) (acc (k0_pay8 (xin z x0 x1) x2) W0 W1 W2 10 (by norm_num))

end Cert.Proof.FfnFirstValue
-- ==== Proof.FfnFirstRunA.lean ====
module

public import proofs.«01_k».proof.Proof.FfnFirstSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnFirstValue

open Cert.FfnFirst Cert.FfnFirst.Gen Cert.Proof.FfnRead

variable {F : FTy → Type} [FloatOps F]

local notation "𝕄" => MT nD τ sig Unit (Elt F) ℕ (Pipeline.UD sig nD τ) ℕ

set_option maxHeartbeats 80000000 in set_option sl_exec.dmaWindow true in set_option sl_exec.dmaWindowSet true in
/-- The body at the first point: it fills the resident weights and leaves the block's result. -/
theorem runA (c : Dev nD) (i : grid0.Coords) (arg2 : Memref sig .tc .vmem S1x688x1024 .f32) (harg2 : arg2.IsWhole) (arg3 : Memref sig .tc .vmem S16x1024 .f32) (harg3 : arg3.IsWhole) (arg4 : Memref sig .tc .vmem S1x1024 .f32) (harg4 : arg4.IsWhole) (arg8 : Memref sig .tc .vmem S1x688x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S2x1024x256 .f32) (harg12 : arg12.IsWhole) (arg13 : Memref sig .tc .vmem S2x1024x256 .f32) (harg13 : arg13.IsWhole) (arg14 : Memref sig .tc .vmem S2x256x1024 .f32) (harg14 : arg14.IsWhole) (arg16 : Memref sig .tc .vmem S688x1024 .f32) (harg16 : arg16.IsWhole) (arg17 : Memref sig .tc .vmem S688x1024 .bf16) (harg17 : arg17.IsWhole) (arg18 : Memref sig .tc .vmem S688x1024 .f32) (harg18 : arg18.IsWhole) (hc0 : cond0_0 i) (hc1 : ¬cond0_1 i) (hc2 : cond0_2 i) (hc3 : ¬cond0_3 i)
    (x0 : Vec F S1x688x1024 .f32) (x1 : Vec F S16x1024 .f32) (x2 : Vec F S1x1024 .f32) (fh0 : HbBuf0 (F := F) c hbM0_0) (fh1 : HbBuf0 (F := F) c hbM0_1) (fh2 : HbBuf0 (F := F) c hbM0_2) (z : ℕ) (hz : z = 0)
    (W : Waits sig Unit) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg8 fullShare (out z x0 x1 x2 (wcol fh0) (wcol fh1) (wrow fh2)) ∗ owns (c : Thread nD τ) arg9 fullShare (wcol fh0) ∗ owns (c : Thread nD τ) arg10 fullShare (wcol fh1) ∗ owns (c : Thread nD τ) arg11 fullShare (wrow fh2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_first i arg2 harg2 arg3 harg3 arg4 harg4 (Memref.whole main_arg3) (Memref.isWhole_whole _) (Memref.whole main_arg4) (Memref.isWhole_whole _) (Memref.whole main_arg5) (Memref.isWhole_whole _) arg8 harg8 arg9 harg9 arg10 harg10 arg11 harg11 arg12 harg12 arg13 harg13 arg14 harg14 cc0_scratch6 arg16 harg16 arg17 harg17 arg18 harg18) K := by
  simp only [cc0_ffn_first_eq_skeleton]; unfold cc0_ffn_first_skel
  simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hh0, Hh1, Hh2, HW, Hk⟩
  obtain rfl := harg2.eq_unread hf0; obtain rfl := harg3.eq_unread hf1; obtain rfl := harg4.eq_unread hf2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine store_whole _ _ _ _ _ (by decide) _ ?_
    refine res_congr (read_top harg2 harg3 _ x0 x1 hz _ _ _ _ _) ?_
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_hit _ _ _ _ _ _ _) (layer_cols _ _ _ _ _ (0 : Fin 2) 2560 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_hit _ _ _ _ _ _ _) (layer_cols _ _ _ _ _ (0 : Fin 2) 2560 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_hit _ _ _ _ _ _ _) (layer_rows _ _ _ _ _ (0 : Fin 2) 2560 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2304 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2304 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 2304 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2048 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2048 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 2048 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1792 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1792 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1792 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1536 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1536 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1536 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1280 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1280 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1280 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1024 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1024 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1024 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 768 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 768 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 768 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 512 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 512 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 512 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine step_congr ?_ (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 256 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 256 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 256 (by norm_num) rfl (by decide) (by decide) (by decide))
    refine back _ _ _ _ _ ?_
    (try delta runA.sl.r);(try delta runA.sl.r_1);(try delta runA.sl.r_2);(try delta runA.sl.r_3);(try delta runA.sl.r_4);(try delta runA.sl.r_5);(try delta runA.sl.r_6);(try delta runA.sl.r_7)
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
    refine first_congr (back _ _ _ _ _ (norm_congr (read_top harg2 harg3 _ x0 x1 hz _ _ _ _ _) (load_whole harg4 _ _ (by decide)))) (back _ _ _ _ _ (norm_congr (read_top harg2 harg3 _ x0 x1 hz _ _ _ _ _) (load_whole harg4 _ _ (by decide)))) (back _ _ _ _ _ ?_) (back _ _ _ _ _ ?_) (back _ _ _ _ _ ?_)
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 0 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 0 (by norm_num) rfl (by decide) (by decide) (by decide))
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 0 (by norm_num) rfl (by decide) (by decide) (by decide))
  isplitl [HS0]
  · iexists _; isplitr; swap; · iexact HS0
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_hit _ _ _ _ _ _ _) (layer_cols _ _ _ _ _ (0 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 0 (by norm_num) rfl (by decide) (by decide) (by decide))
    exact filled_nil _ _ _ _
  isplitl [HS1]
  · iexists _; isplitr; swap; · iexact HS1
    ipureintro
    refine filled_all (a := (1 : Fin 2)) ?_
    refine filled_cons (n := 2560) 2816 ?_ (fun x => cols_emb _ 10 (by norm_num) _ rfl (by decide) (by decide) x _ (fun j => congrFun (?_ : _ = cols _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_hit _ _ _ _ _ _ _) (layer_cols _ _ _ _ _ (0 : Fin 2) 2560 (by norm_num) rfl (by decide) (by decide) (by decide))
    refine filled_cons (n := 2304) 2560 ?_ (fun x => cols_emb _ 9 (by norm_num) _ rfl (by decide) (by decide) x _ (fun j => congrFun (?_ : _ = cols _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2304 (by norm_num) rfl (by decide) (by decide) (by decide))
    refine filled_cons (n := 2048) 2304 ?_ (fun x => cols_emb _ 8 (by norm_num) _ rfl (by decide) (by decide) x _ (fun j => congrFun (?_ : _ = cols _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 2048 (by norm_num) rfl (by decide) (by decide) (by decide))
    refine filled_cons (n := 1792) 2048 ?_ (fun x => cols_emb _ 7 (by norm_num) _ rfl (by decide) (by decide) x _ (fun j => congrFun (?_ : _ = cols _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1792 (by norm_num) rfl (by decide) (by decide) (by decide))
    refine filled_cons (n := 1536) 1792 ?_ (fun x => cols_emb _ 6 (by norm_num) _ rfl (by decide) (by decide) x _ (fun j => congrFun (?_ : _ = cols _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1536 (by norm_num) rfl (by decide) (by decide) (by decide))
    refine filled_cons (n := 1280) 1536 ?_ (fun x => cols_emb _ 5 (by norm_num) _ rfl (by decide) (by decide) x _ (fun j => congrFun (?_ : _ = cols _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1280 (by norm_num) rfl (by decide) (by decide) (by decide))
    refine filled_cons (n := 1024) 1280 ?_ (fun x => cols_emb _ 4 (by norm_num) _ rfl (by decide) (by decide) x _ (fun j => congrFun (?_ : _ = cols _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 1024 (by norm_num) rfl (by decide) (by decide) (by decide))
    refine filled_cons (n := 768) 1024 ?_ (fun x => cols_emb _ 3 (by norm_num) _ rfl (by decide) (by decide) x _ (fun j => congrFun (?_ : _ = cols _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 768 (by norm_num) rfl (by decide) (by decide) (by decide))
    refine filled_cons (n := 512) 768 ?_ (fun x => cols_emb _ 2 (by norm_num) _ rfl (by decide) (by decide) x _ (fun j => congrFun (?_ : _ = cols _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 512 (by norm_num) rfl (by decide) (by decide) (by decide))
    refine filled_cons (n := 256) 512 ?_ (fun x => cols_emb _ 1 (by norm_num) _ rfl (by decide) (by decide) x _ (fun j => congrFun (?_ : _ = cols _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 256 (by norm_num) rfl (by decide) (by decide) (by decide))
    refine filled_cons (n := 0) 256 ?_ (fun x => cols_emb _ 0 (by norm_num) _ rfl (by decide) (by decide) x _ (fun j => congrFun (?_ : _ = cols _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_cols (slot_miss_hit _ _ _ _ _ _ _ _ (slots_disjoint _ _ (by decide)) _ _ _) (layer_cols _ _ _ _ _ (0 : Fin 2) 0 (by norm_num) rfl (by decide) (by decide) (by decide))
    exact filled_nil _ _ _ _
  isplitl [HS2]
  · iexists _; isplitr; swap; · iexact HS2
    ipureintro
    refine filled_all (a := (0 : Fin 2)) ?_
    refine filled_cons (n := 2560) 2816 ?_ (fun x => rows_emb _ 10 (by norm_num) _ rfl (by decide) (by decide) x _ (fun j => congrFun (?_ : _ = rows _ 10 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_hit _ _ _ _ _ _ _) (layer_rows _ _ _ _ _ (0 : Fin 2) 2560 (by norm_num) rfl (by decide) (by decide) (by decide))
    refine filled_cons (n := 2304) 2560 ?_ (fun x => rows_emb _ 9 (by norm_num) _ rfl (by decide) (by decide) x _ (fun j => congrFun (?_ : _ = rows _ 9 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 2304 (by norm_num) rfl (by decide) (by decide) (by decide))
    refine filled_cons (n := 2048) 2304 ?_ (fun x => rows_emb _ 8 (by norm_num) _ rfl (by decide) (by decide) x _ (fun j => congrFun (?_ : _ = rows _ 8 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 2048 (by norm_num) rfl (by decide) (by decide) (by decide))
    refine filled_cons (n := 1792) 2048 ?_ (fun x => rows_emb _ 7 (by norm_num) _ rfl (by decide) (by decide) x _ (fun j => congrFun (?_ : _ = rows _ 7 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1792 (by norm_num) rfl (by decide) (by decide) (by decide))
    refine filled_cons (n := 1536) 1792 ?_ (fun x => rows_emb _ 6 (by norm_num) _ rfl (by decide) (by decide) x _ (fun j => congrFun (?_ : _ = rows _ 6 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1536 (by norm_num) rfl (by decide) (by decide) (by decide))
    refine filled_cons (n := 1280) 1536 ?_ (fun x => rows_emb _ 5 (by norm_num) _ rfl (by decide) (by decide) x _ (fun j => congrFun (?_ : _ = rows _ 5 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1280 (by norm_num) rfl (by decide) (by decide) (by decide))
    refine filled_cons (n := 1024) 1280 ?_ (fun x => rows_emb _ 4 (by norm_num) _ rfl (by decide) (by decide) x _ (fun j => congrFun (?_ : _ = rows _ 4 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 1024 (by norm_num) rfl (by decide) (by decide) (by decide))
    refine filled_cons (n := 768) 1024 ?_ (fun x => rows_emb _ 3 (by norm_num) _ rfl (by decide) (by decide) x _ (fun j => congrFun (?_ : _ = rows _ 3 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 768 (by norm_num) rfl (by decide) (by decide) (by decide))
    refine filled_cons (n := 512) 768 ?_ (fun x => rows_emb _ 2 (by norm_num) _ rfl (by decide) (by decide) x _ (fun j => congrFun (?_ : _ = rows _ 2 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 512 (by norm_num) rfl (by decide) (by decide) (by decide))
    refine filled_cons (n := 256) 512 ?_ (fun x => rows_emb _ 1 (by norm_num) _ rfl (by decide) (by decide) x _ (fun j => congrFun (?_ : _ = rows _ 1 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 256 (by norm_num) rfl (by decide) (by decide) (by decide))
    refine filled_cons (n := 0) 256 ?_ (fun x => rows_emb _ 0 (by norm_num) _ rfl (by decide) (by decide) x _ (fun j => congrFun (?_ : _ = rows _ 0 _) j)) (by decide) (by decide) (by decide)
    rotate_left
    · (try delta runA.sl.r);(try delta runA.sl.r_1);(try delta runA.sl.r_2);(try delta runA.sl.r_3);(try delta runA.sl.r_4);(try delta runA.sl.r_5);(try delta runA.sl.r_6);(try delta runA.sl.r_7)
      try simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, shapeCast_self]
      refine conv_rows (slot_miss_hit _ _ _ _ _ _ _ _ (slots_disjoint _ _ (by decide)) _ _ _) (layer_rows _ _ _ _ _ (0 : Fin 2) 0 (by norm_num) rfl (by decide) (by decide) (by decide))
    exact filled_nil _ _ _ _
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnFirstValue
-- ==== Proof.FfnFirstRunB.lean ====
module

public import proofs.«01_k».proof.Proof.FfnFirstSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnFirstValue

open Cert.FfnFirst Cert.FfnFirst.Gen Cert.Proof.FfnRead

variable {F : FTy → Type} [FloatOps F]

local notation "𝕄" => MT nD τ sig Unit (Elt F) ℕ (Pipeline.UD sig nD τ) ℕ

set_option maxHeartbeats 80000000 in
/-- The body at a later point: it leaves the block's result and the resident weights as they were. -/
theorem runB (c : Dev nD) (i : grid0.Coords) (arg2 : Memref sig .tc .vmem S1x688x1024 .f32) (harg2 : arg2.IsWhole) (arg3 : Memref sig .tc .vmem S16x1024 .f32) (harg3 : arg3.IsWhole) (arg4 : Memref sig .tc .vmem S1x1024 .f32) (harg4 : arg4.IsWhole) (arg8 : Memref sig .tc .vmem S1x688x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S2x1024x256 .f32) (harg12 : arg12.IsWhole) (arg13 : Memref sig .tc .vmem S2x1024x256 .f32) (harg13 : arg13.IsWhole) (arg14 : Memref sig .tc .vmem S2x256x1024 .f32) (harg14 : arg14.IsWhole) (arg16 : Memref sig .tc .vmem S688x1024 .f32) (harg16 : arg16.IsWhole) (arg17 : Memref sig .tc .vmem S688x1024 .bf16) (harg17 : arg17.IsWhole) (arg18 : Memref sig .tc .vmem S688x1024 .f32) (harg18 : arg18.IsWhole) (hc0 : ¬cond0_0 i) (hc1 : cond0_1 i) (hc2 : ¬cond0_2 i) (hc3 : cond0_3 i)
    (x0 : Vec F S1x688x1024 .f32) (x1 : Vec F S16x1024 .f32) (x2 : Vec F S1x1024 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2) (z : ℕ) (hz : z ≠ 0)
    (W : Waits sig Unit) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg8 fullShare (out z x0 x1 x2 (xs0) (xs1) (xs2)) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_first i arg2 harg2 arg3 harg3 arg4 harg4 (Memref.whole main_arg3) (Memref.isWhole_whole _) (Memref.whole main_arg4) (Memref.isWhole_whole _) (Memref.whole main_arg5) (Memref.isWhole_whole _) arg8 harg8 arg9 harg9 arg10 harg10 arg11 harg11 arg12 harg12 arg13 harg13 arg14 harg14 cc0_scratch6 arg16 harg16 arg17 harg17 arg18 harg18) K := by
  simp only [cc0_ffn_first_eq_skeleton]; unfold cc0_ffn_first_skel
  simp only [k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hh0, Hh1, Hh2, HW, Hk⟩
  obtain rfl := harg2.eq_unread hf0; obtain rfl := harg3.eq_unread hf1; obtain rfl := harg4.eq_unread hf2; obtain rfl := harg9.eq_unread hfs0; obtain rfl := harg10.eq_unread hfs1; obtain rfl := harg11.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine store_whole _ _ _ _ _ (by decide) _ ?_
    refine res_congr (read_rest harg2 _ x0 x1 hz _ _) ?_
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 10 _ _ (by decide) (by decide)) (ld_cols harg10 xs1 10 _ _ (by decide) (by decide)) (ld_rows harg11 xs2 10 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 9 _ _ (by decide) (by decide)) (ld_cols harg10 xs1 9 _ _ (by decide) (by decide)) (ld_rows harg11 xs2 9 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 8 _ _ (by decide) (by decide)) (ld_cols harg10 xs1 8 _ _ (by decide) (by decide)) (ld_rows harg11 xs2 8 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 7 _ _ (by decide) (by decide)) (ld_cols harg10 xs1 7 _ _ (by decide) (by decide)) (ld_rows harg11 xs2 7 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 6 _ _ (by decide) (by decide)) (ld_cols harg10 xs1 6 _ _ (by decide) (by decide)) (ld_rows harg11 xs2 6 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 5 _ _ (by decide) (by decide)) (ld_cols harg10 xs1 5 _ _ (by decide) (by decide)) (ld_rows harg11 xs2 5 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 4 _ _ (by decide) (by decide)) (ld_cols harg10 xs1 4 _ _ (by decide) (by decide)) (ld_rows harg11 xs2 4 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 3 _ _ (by decide) (by decide)) (ld_cols harg10 xs1 3 _ _ (by decide) (by decide)) (ld_rows harg11 xs2 3 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 2 _ _ (by decide) (by decide)) (ld_cols harg10 xs1 2 _ _ (by decide) (by decide)) (ld_rows harg11 xs2 2 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 1 _ _ (by decide) (by decide)) (ld_cols harg10 xs1 1 _ _ (by decide) (by decide)) (ld_rows harg11 xs2 1 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    exact first_congr (back _ _ _ _ _ (norm_congr' (read_rest harg2 _ x0 x1 hz _ _) (load_whole harg4 _ _ (by decide)))) (back _ _ _ _ _ (norm_congr' (read_rest harg2 _ x0 x1 hz _ _) (load_whole harg4 _ _ (by decide)))) (ld_cols harg9 xs0 0 _ _ (by decide) (by decide)) (ld_cols harg10 xs1 0 _ _ (by decide) (by decide)) (ld_rows harg11 xs2 0 _ _ (by decide) (by decide))
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnFirstValue
-- ==== Proof.FfnFirstRunC.lean ====
module

public import proofs.«01_k».proof.Proof.FfnFirstSpec

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnFirstValue

open Cert.FfnFirst Cert.FfnFirst.Gen Cert.Proof.FfnRead

variable {F : FTy → Type} [FloatOps F]

local notation "𝕄" => MT nD τ sig Unit (Elt F) ℕ (Pipeline.UD sig nD τ) ℕ

set_option maxHeartbeats 80000000 in
/-- The body at a later point: it leaves the block's result and the resident weights as they were. -/
theorem runC (c : Dev nD) (i : grid0.Coords) (arg2 : Memref sig .tc .vmem S1x688x1024 .f32) (harg2 : arg2.IsWhole) (arg3 : Memref sig .tc .vmem S16x1024 .f32) (harg3 : arg3.IsWhole) (arg4 : Memref sig .tc .vmem S1x1024 .f32) (harg4 : arg4.IsWhole) (arg8 : Memref sig .tc .vmem S1x688x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S2x1024x256 .f32) (harg12 : arg12.IsWhole) (arg13 : Memref sig .tc .vmem S2x1024x256 .f32) (harg13 : arg13.IsWhole) (arg14 : Memref sig .tc .vmem S2x256x1024 .f32) (harg14 : arg14.IsWhole) (arg16 : Memref sig .tc .vmem S688x1024 .f32) (harg16 : arg16.IsWhole) (arg17 : Memref sig .tc .vmem S688x1024 .bf16) (harg17 : arg17.IsWhole) (arg18 : Memref sig .tc .vmem S688x1024 .f32) (harg18 : arg18.IsWhole) (hc0 : cond0_0 i) (hc1 : ¬cond0_1 i) (hc2 : ¬cond0_2 i) (hc3 : cond0_3 i)
    (x0 : Vec F S1x688x1024 .f32) (x1 : Vec F S16x1024 .f32) (x2 : Vec F S1x1024 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2) (z : ℕ) (hz : z = 0)
    (W : Waits sig Unit) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg8 fullShare (out z x0 x1 x2 (xs0) (xs1) (xs2)) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_first i arg2 harg2 arg3 harg3 arg4 harg4 (Memref.whole main_arg3) (Memref.isWhole_whole _) (Memref.whole main_arg4) (Memref.isWhole_whole _) (Memref.whole main_arg5) (Memref.isWhole_whole _) arg8 harg8 arg9 harg9 arg10 harg10 arg11 harg11 arg12 harg12 arg13 harg13 arg14 harg14 cc0_scratch6 arg16 harg16 arg17 harg17 arg18 harg18) K := by
  simp only [cc0_ffn_first_eq_skeleton]; unfold cc0_ffn_first_skel
  simp only [k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hh0, Hh1, Hh2, HW, Hk⟩
  obtain rfl := harg2.eq_unread hf0; obtain rfl := harg3.eq_unread hf1; obtain rfl := harg4.eq_unread hf2; obtain rfl := harg9.eq_unread hfs0; obtain rfl := harg10.eq_unread hfs1; obtain rfl := harg11.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine store_whole _ _ _ _ _ (by decide) _ ?_
    refine res_congr (read_top harg2 harg3 _ x0 x1 hz _ _ _ _ _) ?_
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 10 _ _ (by decide) (by decide)) (ld_cols harg10 xs1 10 _ _ (by decide) (by decide)) (ld_rows harg11 xs2 10 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 9 _ _ (by decide) (by decide)) (ld_cols harg10 xs1 9 _ _ (by decide) (by decide)) (ld_rows harg11 xs2 9 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 8 _ _ (by decide) (by decide)) (ld_cols harg10 xs1 8 _ _ (by decide) (by decide)) (ld_rows harg11 xs2 8 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 7 _ _ (by decide) (by decide)) (ld_cols harg10 xs1 7 _ _ (by decide) (by decide)) (ld_rows harg11 xs2 7 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 6 _ _ (by decide) (by decide)) (ld_cols harg10 xs1 6 _ _ (by decide) (by decide)) (ld_rows harg11 xs2 6 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 5 _ _ (by decide) (by decide)) (ld_cols harg10 xs1 5 _ _ (by decide) (by decide)) (ld_rows harg11 xs2 5 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 4 _ _ (by decide) (by decide)) (ld_cols harg10 xs1 4 _ _ (by decide) (by decide)) (ld_rows harg11 xs2 4 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 3 _ _ (by decide) (by decide)) (ld_cols harg10 xs1 3 _ _ (by decide) (by decide)) (ld_rows harg11 xs2 3 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 2 _ _ (by decide) (by decide)) (ld_cols harg10 xs1 2 _ _ (by decide) (by decide)) (ld_rows harg11 xs2 2 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    refine step_congr ?_ (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 1 _ _ (by decide) (by decide)) (ld_cols harg10 xs1 1 _ _ (by decide) (by decide)) (ld_rows harg11 xs2 1 _ _ (by decide) (by decide))
    refine back _ _ _ _ _ ?_
    simp only [k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70, k0_pay71, k0_pay72, Idealize.ShloMosaic.shapeCast_self]
    exact first_congr (back _ _ _ _ _ (norm_congr' (read_top harg2 harg3 _ x0 x1 hz _ _ _ _ _) (load_whole harg4 _ _ (by decide)))) (back _ _ _ _ _ (norm_congr' (read_top harg2 harg3 _ x0 x1 hz _ _ _ _ _) (load_whole harg4 _ _ (by decide)))) (ld_cols harg9 xs0 0 _ _ (by decide) (by decide)) (ld_cols harg10 xs1 0 _ _ (by decide) (by decide)) (ld_rows harg11 xs2 0 _ _ (by decide) (by decide))
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.Proof.FfnFirstValue
-- ==== Proof.FfnFirstFrame.lean ====
module

public import proofs.«01_k».proof.Proof.FfnFirstRunA
public import proofs.«01_k».proof.Proof.FfnFirstRunB
public import proofs.«01_k».proof.Proof.FfnFirstRunC
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.FfnFirstValue

open Cert.FfnFirst Cert.FfnFirst.Gen Cert.Proof.FfnRead

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Before the first point the launch's invariant; afterwards the resident weights converted. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wcol (V m c main_arg3)) ∗ owns (c : Thread nD τ) scM0_1 fullShare (wcol (V m c main_arg4)) ∗ owns (c : Thread nD τ) scM0_2 fullShare (wrow (V m c main_arg5)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4) ∗ hbPt0 c hbM0_2 (V m c main_arg5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wcol (V m c main_arg3)) ∗ owns (c : Thread nD τ) scM0_1 fullShare (wcol (V m c main_arg4)) ∗ owns (c : Thread nD τ) scM0_2 fullShare (wrow (V m c main_arg5)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4) ∗ hbPt0 c hbM0_2 (V m c main_arg5))) := rfl

theorem PhiS_pos (c : Dev nD) (n : ℕ) (h : n ≤ cfg0.N) (hz : n ≠ 0) :
    PhiS m c n h = iprop(iprop(owns (c : Thread nD τ) scM0_0 fullShare (wcol (V m c main_arg3)) ∗ owns (c : Thread nD τ) scM0_1 fullShare (wcol (V m c main_arg4)) ∗ owns (c : Thread nD τ) scM0_2 fullShare (wrow (V m c main_arg5)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4) ∗ hbPt0 c hbM0_2 (V m c main_arg5))) := by
  cases n with
  | zero => exact absurd rfl hz
  | succ n => rfl

/-- The pipeline's data: inputs at their blocks, the output at what the body computes from them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (t.val % 3) (iblk m c 0 t) (iblk m c 1 t) (iblk m c 2 t) (wcol (V m c main_arg3)) (wcol (V m c main_arg4)) (wrow (V m c main_arg5))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out (t.val % 3) (iblk m c 0 t) (iblk m c 1 t) (iblk m c 2 t) (wcol (V m c main_arg3)) (wcol (V m c main_arg4)) (wrow (V m c main_arg5)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 48 := lt_of_lt_of_eq t.isLt (show cfg0.N = 48 from N_0)
  by_cases h0 : t.val % 3 = 0
  · by_cases h1 : 1 ≤ t.val % 3
    · exfalso; omega
    · by_cases h2 : t.val % 48 = 0
      · by_cases h3 : 1 ≤ t.val
        · exfalso; omega
        · by_cases hz : t.val = 0
          · rw [PhiS_castSucc m c t, PhiS_zero m c _ _ hz, PhiD0_eq]
            iintro ⟨⟨⟨HS0, HS1, HS2, HS3, HS4, HS5, HS6, HS7, HS8⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩⟩
            iapply (runA c (grid0.coords t) _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (V m c main_arg3) (V m c main_arg4) (V m c main_arg5) _ h0 W _)
            isplitl [H0]; · iexact H0
            isplitl [H1]; · iexact H1
            isplitl [H2]; · iexact H2
            isplitl [H3]; · iexists _; iexact H3
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hh0]; · iexact Hh0
            isplitl [Hh1]; · iexact Hh1
            isplitl [Hh2]; · iexact Hh2
            isplitl [HW]; · iexact HW
            iintro ⟨H0, H1, H2, H3, HS0, HS1, HS2, HS3, HS4, HS5, HS6, HS7, HS8, Hq0, Hq1, Hq2, Hq3, Hq4, Hq5, Hh0, Hh1, Hh2, ⟨%W', HW'⟩⟩
            isplitl [HS0 HS1 HS2 HS3 HS4 HS5 HS6 HS7 HS8 Hg Hq0 Hq1 Hq2 Hq3 Hq4 Hq5 Hh0 Hh1 Hh2]
            · isplitl [HS0 HS1 HS2 HS3 HS4 HS5 HS6 HS7 HS8]
              · isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                isplitl [HS7]; · iexact HS7
                iexact HS8
              isplitl [Hg]
              · iexact Hg
              isplitl [Hq0 Hq1 Hq2 Hq3 Hq4 Hq5]
              · isplitl [Hq0]; · iexact Hq0
                isplitl [Hq1]; · iexact Hq1
                isplitl [Hq2]; · iexact Hq2
                isplitl [Hq3]; · iexact Hq3
                isplitl [Hq4]; · iexact Hq4
                iexact Hq5
              isplitl [Hh0]; · iexact Hh0
              isplitl [Hh1]; · iexact Hh1
              iexact Hh2
            isplitl [HW']
            · iexists W'; isplitr; · ipureintro; exact fun _ _ => Or.inl trivial
              iexact HW'
            isplitl [H0]; · iexact H0
            isplitl [H1]; · iexact H1
            isplitl [H2]; · iexact H2
            iexact H3
          · exfalso; have hN : t.val < 48 := lt_of_lt_of_eq t.isLt (show cfg0.N = 48 from N_0); omega
      · by_cases h3 : 1 ≤ t.val
        · by_cases hz : t.val = 0
          · exfalso; have hN : t.val < 48 := lt_of_lt_of_eq t.isLt (show cfg0.N = 48 from N_0); omega
          · rw [PhiS_castSucc m c t, PhiS_pos m c _ _ hz]
            iintro ⟨⟨⟨HS0, HS1, HS2, HS3, HS4, HS5, HS6, HS7, HS8⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩⟩
            iapply (runC c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) _ _ _ (V m c main_arg3) (V m c main_arg4) (V m c main_arg5) _ h0 W _)
            isplitl [H0]; · iexact H0
            isplitl [H1]; · iexact H1
            isplitl [H2]; · iexact H2
            isplitl [H3]; · iexists _; iexact H3
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hh0]; · iexact Hh0
            isplitl [Hh1]; · iexact Hh1
            isplitl [Hh2]; · iexact Hh2
            isplitl [HW]; · iexact HW
            iintro ⟨H0, H1, H2, H3, HS0, HS1, HS2, HS3, HS4, HS5, HS6, HS7, HS8, Hq0, Hq1, Hq2, Hq3, Hq4, Hq5, Hh0, Hh1, Hh2, ⟨%W', HW'⟩⟩
            isplitl [HS0 HS1 HS2 HS3 HS4 HS5 HS6 HS7 HS8 Hg Hq0 Hq1 Hq2 Hq3 Hq4 Hq5 Hh0 Hh1 Hh2]
            · isplitl [HS0 HS1 HS2 HS3 HS4 HS5 HS6 HS7 HS8]
              · isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                isplitl [HS7]; · iexact HS7
                iexact HS8
              isplitl [Hg]
              · iexact Hg
              isplitl [Hq0 Hq1 Hq2 Hq3 Hq4 Hq5]
              · isplitl [Hq0]; · iexact Hq0
                isplitl [Hq1]; · iexact Hq1
                isplitl [Hq2]; · iexact Hq2
                isplitl [Hq3]; · iexact Hq3
                isplitl [Hq4]; · iexact Hq4
                iexact Hq5
              isplitl [Hh0]; · iexact Hh0
              isplitl [Hh1]; · iexact Hh1
              iexact Hh2
            isplitl [HW']
            · iexists W'; isplitr; · ipureintro; exact fun _ _ => Or.inl trivial
              iexact HW'
            isplitl [H0]; · iexact H0
            isplitl [H1]; · iexact H1
            isplitl [H2]; · iexact H2
            iexact H3
        · exfalso; omega
  · by_cases h1 : 1 ≤ t.val % 3
    · by_cases h2 : t.val % 48 = 0
      · exfalso; omega
      · by_cases h3 : 1 ≤ t.val
        · by_cases hz : t.val = 0
          · exfalso; have hN : t.val < 48 := lt_of_lt_of_eq t.isLt (show cfg0.N = 48 from N_0); omega
          · rw [PhiS_castSucc m c t, PhiS_pos m c _ _ hz]
            iintro ⟨⟨⟨HS0, HS1, HS2, HS3, HS4, HS5, HS6, HS7, HS8⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩⟩
            iapply (runB c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) _ _ _ (V m c main_arg3) (V m c main_arg4) (V m c main_arg5) _ h0 W _)
            isplitl [H0]; · iexact H0
            isplitl [H1]; · iexact H1
            isplitl [H2]; · iexact H2
            isplitl [H3]; · iexists _; iexact H3
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hh0]; · iexact Hh0
            isplitl [Hh1]; · iexact Hh1
            isplitl [Hh2]; · iexact Hh2
            isplitl [HW]; · iexact HW
            iintro ⟨H0, H1, H2, H3, HS0, HS1, HS2, HS3, HS4, HS5, HS6, HS7, HS8, Hq0, Hq1, Hq2, Hq3, Hq4, Hq5, Hh0, Hh1, Hh2, ⟨%W', HW'⟩⟩
            isplitl [HS0 HS1 HS2 HS3 HS4 HS5 HS6 HS7 HS8 Hg Hq0 Hq1 Hq2 Hq3 Hq4 Hq5 Hh0 Hh1 Hh2]
            · isplitl [HS0 HS1 HS2 HS3 HS4 HS5 HS6 HS7 HS8]
              · isplitl [HS0]; · iexact HS0
                isplitl [HS1]; · iexact HS1
                isplitl [HS2]; · iexact HS2
                isplitl [HS3]; · iexact HS3
                isplitl [HS4]; · iexact HS4
                isplitl [HS5]; · iexact HS5
                isplitl [HS6]; · iexact HS6
                isplitl [HS7]; · iexact HS7
                iexact HS8
              isplitl [Hg]
              · iexact Hg
              isplitl [Hq0 Hq1 Hq2 Hq3 Hq4 Hq5]
              · isplitl [Hq0]; · iexact Hq0
                isplitl [Hq1]; · iexact Hq1
                isplitl [Hq2]; · iexact Hq2
                isplitl [Hq3]; · iexact Hq3
                isplitl [Hq4]; · iexact Hq4
                iexact Hq5
              isplitl [Hh0]; · iexact Hh0
              isplitl [Hh1]; · iexact Hh1
              iexact Hh2
            isplitl [HW']
            · iexists W'; isplitr; · ipureintro; exact fun _ _ => Or.inl trivial
              iexact HW'
            isplitl [H0]; · iexact H0
            isplitl [H1]; · iexact H1
            isplitl [H2]; · iexact H2
            iexact H3
        · exfalso; omega
    · exfalso; omega

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8⟩, Hg, ⟨Hq0, Hq1, Hq2, Hq3, Hq4, Hq5⟩, ⟨Hh0, Hh1, Hh2⟩⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    isplitl [HS7]
    · iexact HS7
    iexact HS8
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 48 := N_0; omega)

set_option backward.isDefEq.respectTransparency.types false in
/-- Every execution ends with the arrays as the data says and the counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Proof.FfnFirstValue

end
-- ==== Proof.FfnFirstCell.lean ====
module

public import proofs.«01_k».proof.Proof.FfnFirstSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FfnFirstValue

open Cert.FfnFirst Cert.FfnFirst.Gen

/-! The feed-forward part at an index, over the reals. -/

/-- One hidden feature of a row. -/
def hid (n wg wu : Fin 1024 → EReal) : EReal :=
  (∑ k : Fin 1024, n k * wg k) * Ideal.logistic (∑ k : Fin 1024, n k * wg k) * ∑ k : Fin 1024, n k * wu k

/-- What hidden feature `x` adds to entry `(r, l)`; nothing past the last feature. -/
def term (n : FVec Ideal S688x1024 .bf16) (W0 W1 : FVec Ideal S1024x2816 .bf16) (W2 : FVec Ideal S2816x1024 .bf16) (r : Fin 688) (l : Fin 1024) (x : ℕ) : EReal :=
  if h : x < 2816 then hid (fun k => n (ix2 r k)) (fun k => W0 (ix2 k ⟨x, h⟩)) (fun k => W1 (ix2 k ⟨x, h⟩)) * W2 (ix2 ⟨x, h⟩ l) else 0

theorem chunk_apply (n : FVec Ideal S688x1024 .bf16) (W0 W1 : FVec Ideal S1024x2816 .bf16) (W2 : FVec Ideal S2816x1024 .bf16) (r : Fin 688) (l : Fin 1024)
    (q : ℕ) (h : 256 * q + 256 ≤ 2816) :
    chunk n (cols W0 q h) n (cols W1 q h) (rows W2 q h) (ix2 r l) = ∑ j : Fin 256, term n W0 W1 W2 r l (256 * q + j.val) := by
  have e : ∀ j : Fin 256, term n W0 W1 W2 r l (256 * q + j.val)
      = hid (fun k => n (ix2 r k)) (fun k => cols W0 q h (ix2 k j)) (fun k => cols W1 q h (ix2 k j)) * rows W2 q h (ix2 j l) := fun j => by
    unfold term
    rw [dif_pos (Nat.lt_of_lt_of_le (Nat.add_lt_add_left j.isLt _) h)]
    rfl
  simp only [e]
  generalize cols W0 q h = a0
  generalize cols W1 q h = a1
  generalize rows W2 q h = a2
  pointwise [chunk, hid]

/-- The chunks together are the sum over the hidden features they span. -/
theorem acc_range (n : FVec Ideal S688x1024 .bf16) (W0 W1 : FVec Ideal S1024x2816 .bf16) (W2 : FVec Ideal S2816x1024 .bf16) (r : Fin 688) (l : Fin 1024) :
    (q : ℕ) → (h : 256 * q + 256 ≤ 2816) → acc n W0 W1 W2 q h (ix2 r l) = ∑ x ∈ Finset.range (256 * q + 256), term n W0 W1 W2 r l x
  | 0, h => by
    refine (chunk_apply n W0 W1 W2 r l 0 h).trans ?_
    rw [Finset.sum_range]
    exact Finset.sum_congr rfl fun j _ => congrArg _ (by simp only [Nat.mul_zero, Nat.zero_add])
  | q + 1, h => by
    show acc n W0 W1 W2 q _ (ix2 r l) + chunk n (cols W0 (q + 1) h) n (cols W1 (q + 1) h) (rows W2 (q + 1) h) (ix2 r l) = _
    rw [acc_range n W0 W1 W2 r l q, chunk_apply, show 256 * (q + 1) + 256 = (256 * q + 256) + 256 from by omega,
      Finset.sum_range_add (term n W0 W1 W2 r l) (256 * q + 256) 256]
    exact congrArg _ ((Finset.sum_range fun x => term n W0 W1 W2 r l (256 * q + 256 + x)).symm)

theorem acc_apply (n : FVec Ideal S688x1024 .bf16) (W0 W1 : FVec Ideal S1024x2816 .bf16) (W2 : FVec Ideal S2816x1024 .bf16) (r : Fin 688) (l : Fin 1024) :
    acc n W0 W1 W2 10 (by norm_num) (ix2 r l)
      = ∑ x : Fin 2816, hid (fun k => n (ix2 r k)) (fun k => W0 (ix2 k x)) (fun k => W1 (ix2 k x)) * W2 (ix2 x l) := by
  rw [acc_range, show 256 * 10 + 256 = 2816 from rfl, Finset.sum_range]
  exact Finset.sum_congr rfl fun x _ => dif_pos x.isLt

/-- Scaled to unit mean square, with a gain. -/
def rms (h g : Fin 1024 → EReal) (k : Fin 1024) : EReal :=
  h k * Ideal.rsqrt (Ideal.div (∑ x : Fin 1024, h x * h x) (Ideal.ofBits FTy.f32 1149239296#32) + Ideal.ofBits FTy.f32 897988541#32) * g k

/-- A row with half its feed-forward part added. -/
def half (h g : Fin 1024 → EReal) (wg wu : Fin 1024 → Fin 2816 → EReal) (wd : Fin 2816 → Fin 1024 → EReal) (l : Fin 1024) : EReal :=
  h l + Ideal.ofBits FTy.f32 1056964608#32 * ∑ x : Fin 2816, hid (rms h g) (fun k => wg k x) (fun k => wu k x) * wd x l

theorem norm_apply (x : Vec Ideal S688x1024 .f32) (x2 : Vec Ideal S1x1024 .f32) (r : Fin 688) (k : Fin 1024) :
    k0_pay8 x x2 (ix2 r k) = rms (fun k => x (ix2 r k)) (fun k => x2 (ix2 0 k)) k := by
  pointwise [k0_pay8, rms]

theorem res_apply (x : Vec Ideal S688x1024 .f32) (a : FVec Ideal S688x1024 .f32) (z : Fin 1) (r : Fin 688) (l : Fin 1024) :
    k0_pay7 x a (ix3 z r l) = x (ix2 r l) + Ideal.ofBits FTy.f32 1056964608#32 * a (ix2 r l) := by
  pointwise [k0_pay7]

theorem out_apply (y : ℕ) (x0 : Vec Ideal S1x688x1024 .f32) (x1 : Vec Ideal S16x1024 .f32) (x2 : Vec Ideal S1x1024 .f32)
    (W0 W1 : FVec Ideal S1024x2816 .bf16) (W2 : FVec Ideal S2816x1024 .bf16) (z : Fin 1) (r : Fin 688) (l : Fin 1024) :
    out y x0 x1 x2 W0 W1 W2 (ix3 z r l)
      = half (fun k => xin (F := Ideal) y x0 x1 (ix2 r k)) (fun k => x2 (ix2 0 k)) (fun k x => W0 (ix2 k x)) (fun k x => W1 (ix2 k x)) (fun x l => W2 (ix2 x l)) l := by
  unfold out
  generalize xin (F := Ideal) y x0 x1 = x
  rw [res_apply, acc_apply]
  unfold half
  rw [show (fun k => k0_pay8 x x2 (ix2 r k)) = rms (fun k => x (ix2 r k)) (fun k => x2 (ix2 0 k)) from funext fun k => norm_apply x x2 r k]

theorem pay3_apply (x0 : Vec Ideal S1x688x1024 .f32) (r : Fin 688) (k : Fin 1024) : k0_pay3 x0 (ix2 r k) = x0 (ix3 0 r k) := by
  pointwise [k0_pay3]

theorem wcol_apply (f : FVec Ideal S2x1024x2816 .f32) (k : Fin 1024) (x : Fin 2816) : wcol f (ix2 k x) = f (ix3 0 k x) := rfl

theorem wrow_apply (f : FVec Ideal S2x2816x1024 .f32) (x : Fin 2816) (l : Fin 1024) : wrow f (ix2 x l) = f (ix3 0 x l) := rfl

end Cert.Proof.FfnFirstValue

end
-- ==== Proof.FfnFirstValue.lean ====
module

public import proofs.«01_k».proof.Proof.FfnFirstFrame
public import proofs.«01_k».proof.Proof.FfnFirstCell
public import proofs.«01_k».proof.Proof.Gen.FfnFirstRefIdeal.Run
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.FfnFirstValue

open Cert.FfnFirst Cert.FfnFirst.Gen

variable (m : (ℓ : Loc nD τ sig) → Buf (Elt Ideal) ℓ)

theorem in2 (c : Dev nD) (z : Fin 1) (l : Fin 1024) :
    (V m c main_v2 : FVec Ideal S1x1024 .f32) (ix2 z l) = (m ((c : Thread nD τ).loc main_arg2) : FVec Ideal S2x1024 .f32) (ix2 0 l) := by
  unfold V hostOps0
  after_results_simp
  pointwise

theorem idx0 : ∀ t : Fin grid0.N, win0_0.index t 0 = t.val / 3 ∧ win0_0.index t 1 = 688 * (t.val % 3) - 16 ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val / 3 ∧ win0_3.index t 1 = t.val % 3 ∧ win0_3.index t 2 = 0 := by decide +kernel

theorem blk0 (c : Dev nD) (t : Fin cfg0.N) (z : Fin 1) (r : Fin 688) (l : Fin 1024) (hb : t.val / 3 < 16) (hs : 688 * (t.val % 3) - 16 + r.val < 2048) :
    (iblk m c 0 t : Vec Ideal S1x688x1024 .f32) (ix3 z r l) = (V m c main_arg0 : FVec Ideal S16x2048x1024 .f32) (ix3 ⟨t.val / 3, hb⟩ ⟨688 * (t.val % 3) - 16 + r.val, hs⟩ l) := by
  have hi := idx0 t
  unfold iblk
  rw [View.read_apply]
  show V m c main_arg0 _ = V m c main_arg0 _
  congr 1
  funext a
  apply Fin.ext
  match a with
  | ⟨0, _⟩ => show win0_0.index t 0 + 1 * z.val = t.val / 3; rw [hi.1]; omega
  | ⟨1, _⟩ => show win0_0.index t 1 + 1 * r.val = 688 * (t.val % 3) - 16 + r.val; rw [hi.2.1]; omega
  | ⟨2, _⟩ => show win0_0.index t 2 + 1 * l.val = l.val; rw [hi.2.2]; omega

theorem blk1 (c : Dev nD) (t : Fin cfg0.N) (r : Fin 16) (l : Fin 1024) :
    (iblk m c 1 t : Vec Ideal S16x1024 .f32) (ix2 r l) = (V m c main_arg1 : FVec Ideal S16x1024 .f32) (ix2 r l) := by
  have hi := idx1 t
  unfold iblk
  rw [View.read_apply]
  show V m c main_arg1 _ = V m c main_arg1 _
  congr 1
  funext a
  apply Fin.ext
  match a with
  | ⟨0, _⟩ => show win0_1.index t 0 * 16 + 1 * r.val = r.val; rw [hi.1]; omega
  | ⟨1, _⟩ => show win0_1.index t 1 * 1024 + 1 * l.val = l.val; rw [hi.2]; omega

theorem blk2 (c : Dev nD) (t : Fin cfg0.N) (r : Fin 1) (l : Fin 1024) :
    (iblk m c 2 t : Vec Ideal S1x1024 .f32) (ix2 r l) = (V m c main_v2 : FVec Ideal S1x1024 .f32) (ix2 r l) := by
  have hi := idx2 t
  unfold iblk
  rw [View.read_apply]
  show V m c main_v2 _ = V m c main_v2 _
  congr 1
  funext a
  apply Fin.ext
  match a with
  | ⟨0, _⟩ => show win0_2.index t 0 * 1 + 1 * r.val = r.val; rw [hi.1]; omega
  | ⟨1, _⟩ => show win0_2.index t 1 * 1024 + 1 * l.val = l.val; rw [hi.2]; omega

/-- Row `s` of batch entry `b` with the meta rows in front. -/
def row (c : Dev nD) (b : Fin 16) (s : Fin 2064) (k : Fin 1024) : EReal :=
  if h : s.val < 16 then (m ((c : Thread nD τ).loc main_arg1) : FVec Ideal S16x1024 .f32) (ix2 ⟨s.val, h⟩ k)
  else (m ((c : Thread nD τ).loc main_arg0) : FVec Ideal S16x2048x1024 .f32) (ix3 b ⟨s.val - 16, by omega⟩ k)

/-- The result as one function of the arguments. -/
def G (c : Dev nD) (b : Fin 16) (s : Fin 2064) (l : Fin 1024) : EReal :=
  half (row m c b s)
    (fun k => (m ((c : Thread nD τ).loc main_arg2) : FVec Ideal S2x1024 .f32) (ix2 0 k))
    (fun k x => (m ((c : Thread nD τ).loc main_arg3) : FVec Ideal S2x1024x2816 .f32) (ix3 0 k x))
    (fun k x => (m ((c : Thread nD τ).loc main_arg4) : FVec Ideal S2x1024x2816 .f32) (ix3 0 k x))
    (fun x l => (m ((c : Thread nD τ).loc main_arg5) : FVec Ideal S2x2816x1024 .f32) (ix3 0 x l)) l

/-- The same as an array. -/
def A (c : Dev nD) : FVec Ideal S16x2064x1024 .f32 := fun i => G m c (i 0) (i 1) (i 2)

theorem ex3 {p q r : Nat} (i : (a : Fin 3) → Fin (![p, q, r] a)) : ∃ (x : Fin p) (y : Fin q) (z : Fin r), i = ix3 x y z :=
  ⟨i 0, i 1, i 2, funext fun a => match a with | ⟨0, _⟩ => rfl | ⟨1, _⟩ => rfl | ⟨2, _⟩ => rfl⟩

/-- The rows point `t` works on are those of its block of the result. -/
theorem xin_iblk (c : Dev nD) (t : Fin cfg0.N) (r : Fin 688) (k : Fin 1024) (hb : t.val / 3 < 16) (hs : 688 * (t.val % 3) + r.val < 2064) :
    xin (F := Ideal) (t.val % 3) (iblk m c 0 t) (iblk m c 1 t) (ix2 r k) = row m c ⟨t.val / 3, hb⟩ ⟨688 * (t.val % 3) + r.val, hs⟩ k := by
  unfold xin row
  by_cases hz : t.val % 3 = 0
  · rw [if_pos hz]
    unfold xtop
    by_cases hr : r.val < 16
    · rw [dif_pos (show ((ix2 r k : S688x1024.Idx) 0).val < 16 from hr), dif_pos (by show 688 * (t.val % 3) + r.val < 16; omega)]
      refine (blk1 m c t ⟨r.val, hr⟩ k).trans ((congrFun (V_main_arg1 m c) _).trans (congrArg _ ?_))
      funext a
      apply Fin.ext
      match a with
      | ⟨0, _⟩ => show r.val = 688 * (t.val % 3) + r.val; omega
      | ⟨1, _⟩ => rfl
    · rw [dif_neg (show ¬((ix2 r k : S688x1024.Idx) 0).val < 16 from hr), dif_neg (by show ¬688 * (t.val % 3) + r.val < 16; omega)]
      refine (blk0 m c t 0 ⟨r.val - 16, by omega⟩ k hb (by show 688 * (t.val % 3) - 16 + (r.val - 16) < 2048; omega)).trans ((congrFun (V_main_arg0 m c) _).trans (congrArg _ ?_))
      funext a
      apply Fin.ext
      match a with
      | ⟨0, _⟩ => rfl
      | ⟨1, _⟩ => show 688 * (t.val % 3) - 16 + (r.val - 16) = 688 * (t.val % 3) + r.val - 16; omega
      | ⟨2, _⟩ => rfl
  · rw [if_neg hz, dif_neg (by show ¬688 * (t.val % 3) + r.val < 16; omega)]
    refine (pay3_apply _ r k).trans ((blk0 m c t 0 r k hb (by omega)).trans ((congrFun (V_main_arg0 m c) _).trans (congrArg _ ?_)))
    funext a
    apply Fin.ext
    match a with
    | ⟨0, _⟩ => rfl
    | ⟨1, _⟩ => show 688 * (t.val % 3) - 16 + r.val = 688 * (t.val % 3) + r.val - 16; omega
    | ⟨2, _⟩ => rfl

theorem blk_out (c : Dev nD) (X : FVec Ideal S16x2064x1024 .f32) (t : Fin cfg0.N) (z : Fin 1) (r : Fin 688) (l : Fin 1024) (hb : t.val / 3 < 16) (hs : 688 * (t.val % 3) + r.val < 2064) :
    ((cfg0.win 3).blk t).view.read (Elt Ideal) X (ix3 z r l) = X (ix3 ⟨t.val / 3, hb⟩ ⟨688 * (t.val % 3) + r.val, hs⟩ l) := by
  have hi := idx3 t
  rw [View.read_apply]
  show X _ = X _
  congr 1
  funext a
  apply Fin.ext
  match a with
  | ⟨0, _⟩ => show win0_3.index t 0 * 1 + 1 * z.val = t.val / 3; rw [hi.1]; omega
  | ⟨1, _⟩ => show win0_3.index t 1 * 688 + 1 * r.val = 688 * (t.val % 3) + r.val; rw [hi.2.1]; omega
  | ⟨2, _⟩ => show win0_3.index t 2 * 1024 + 1 * l.val = l.val; rw [hi.2.2]; omega

theorem cell_congr {h h' g g' : Fin 1024 → EReal} {wg wg' wu wu' : Fin 1024 → Fin 2816 → EReal} {wd wd' : Fin 2816 → Fin 1024 → EReal} (l : Fin 1024)
    (e0 : ∀ k, h k = h' k) (e1 : ∀ k, g k = g' k) (e2 : ∀ k x, wg k x = wg' k x) (e3 : ∀ k x, wu k x = wu' k x) (e4 : ∀ x l, wd x l = wd' x l) :
    half h g wg wu wd l = half h' g' wg' wu' wd' l := by
  obtain rfl := funext e0; obtain rfl := funext e1; obtain rfl := funext fun k => funext (e2 k); obtain rfl := funext fun k => funext (e3 k)
  obtain rfl := funext fun k => funext (e4 k)
  rfl

/-- What point `t` leaves, at an index, as a function of the arguments. -/
theorem out_iblk (c : Dev nD) (t : Fin cfg0.N) (z : Fin 1) (r : Fin 688) (l : Fin 1024) (hb : t.val / 3 < 16) (hs : 688 * (t.val % 3) + r.val < 2064) :
    out (F := Ideal) (t.val % 3) (iblk m c 0 t) (iblk m c 1 t) (iblk m c 2 t) (wcol (V m c main_arg3)) (wcol (V m c main_arg4)) (wrow (V m c main_arg5)) (ix3 z r l)
      = G m c ⟨t.val / 3, hb⟩ ⟨688 * (t.val % 3) + r.val, hs⟩ l := by
  refine (out_apply _ _ _ _ _ _ _ z r l).trans ?_
  unfold G
  exact cell_congr l (fun k => xin_iblk m c t r k hb hs) (fun k => (blk2 m c t 0 k).trans (in2 m c 0 k))
    (fun k x => (wcol_apply _ k x).trans (congrFun (V_main_arg3 m c) _)) (fun k x => (wcol_apply _ k x).trans (congrFun (V_main_arg4 m c) _))
    (fun x l => (wrow_apply _ x l).trans (congrFun (V_main_arg5 m c) _))

/-- Point `t` writes its block of the result. -/
theorem flushed_eq (c : Dev nD) (t : Fin cfg0.N) :
    (dats m 0 c).flushed 3 t = ((cfg0.win 3).blk t).view.read (Elt Ideal) (A m c) := by
  have hN : t.val < 48 := Nat.lt_of_lt_of_eq t.isLt N_0
  have hb : t.val / 3 < 16 := by omega
  show (cfg0.win 3).cut (grid0.coords t) ((dats m 0 c).after 3 t) = _
  rw [after0_3]
  funext j
  obtain ⟨z, r, l, rfl⟩ : ∃ (z : Fin 1) (r : Fin 688) (l : Fin 1024), j = ix3 z r l := ex3 j
  have hs : 688 * (t.val % 3) + r.val < 2064 := by omega
  exact (out_iblk m c t z r l hb hs).trans (blk_out c (A m c) t z r l hb hs).symm

theorem cover (i : S16x2064x1024.Idx) : ∃ t : Fin cfg0.N, (cfg0.win 3).flush t = true ∧ i ∈ ((cfg0.win 3).blk t).view.set := by
  have h0 : (i 0 : Nat) < 16 := (i 0).isLt
  have h1 : (i 1 : Nat) < 2064 := (i 1).isLt
  have h2 : (i 2 : Nat) < 1024 := (i 2).isLt
  have hN : cfg0.N = 48 := N_0
  let t : Fin cfg0.N := ⟨3 * (i 0 : Nat) + (i 1 : Nat) / 688, by omega⟩
  refine ⟨t, flush0_3 t, ?_⟩
  have hi := idx3 t
  have ht : t.val = 3 * (i 0 : Nat) + (i 1 : Nat) / 688 := rfl
  show i ∈ ((View.whole main_v3).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [hi.1]; omega
  | ⟨1, _⟩ => show win0_3.index t 1 * 688 ≤ (i 1 : Nat) ∧ (i 1 : Nat) < win0_3.index t 1 * 688 + 688; rw [hi.2.1]; omega
  | ⟨2, _⟩ => show win0_3.index t 2 * 1024 ≤ (i 2 : Nat) ∧ (i 2 : Nat) < win0_3.index t 2 * 1024 + 1024; rw [hi.2.2]; omega

theorem final (c : Dev nD) : (dats m 0 c).arrAt 3 cfg0.N = A m c :=
  (dats m 0 c).arrAt_eq_of_cover 3 (A m c) (fun t _ => flushed_eq m c t) cover

set_option maxHeartbeats 4000000 in
/-- The reference's result is the same function of its arguments. -/
theorem ref_eq (m' : (ℓ : Loc Cert.FfnFirstRefIdeal.nD Cert.FfnFirstRefIdeal.τ Cert.FfnFirstRefIdeal.sig) → Buf (Elt Ideal) ℓ) (c : Dev nD)
    (e0 : m' ((c.tc : Thread _ _).loc Cert.FfnFirstRefIdeal.main_arg0) = m ((c : Thread nD τ).loc main_arg0))
    (e1 : m' ((c.tc : Thread _ _).loc Cert.FfnFirstRefIdeal.main_arg1) = m ((c : Thread nD τ).loc main_arg1))
    (e2 : m' ((c.tc : Thread _ _).loc Cert.FfnFirstRefIdeal.main_arg2) = m ((c : Thread nD τ).loc main_arg2))
    (e3 : m' ((c.tc : Thread _ _).loc Cert.FfnFirstRefIdeal.main_arg3) = m ((c : Thread nD τ).loc main_arg3))
    (e4 : m' ((c.tc : Thread _ _).loc Cert.FfnFirstRefIdeal.main_arg4) = m ((c : Thread nD τ).loc main_arg4))
    (e5 : m' ((c.tc : Thread _ _).loc Cert.FfnFirstRefIdeal.main_arg5) = m ((c : Thread nD τ).loc main_arg5)) :
    Cert.FfnFirstRefIdeal.Value.res_out0 m' c = A m c := by
  funext i
  obtain ⟨b, s, l, rfl⟩ := ex3 (p := 16) (q := 2064) (r := 1024) i
  unfold Cert.FfnFirstRefIdeal.Value.res_out0 Cert.FfnFirstRefIdeal.Value.res_main_v31
  rw [e0, e1, e2, e3, e4, e5]
  show _ = G m c b s l
  pointwise [G, row, rms, half, hid, Ideal.logistic]

end Cert.Proof.FfnFirstValue

end
-- ==== Proof.FfnFirstClaims.lean ====
/- The claims about `FfnFirst`. The program and its idealization have the same text, so one run serves both: it is stated of the
   program at any float values, and carried over. -/
module

public import proofs.«01_k».proof.Defs
public import proofs.«01_k».proof.Proof.FfnFirstValue
public import proofs.«01_k».proof.Proof.Gen.FfnFirst
public import proofs.«01_k».proof.Proof.Gen.FfnFirstIdeal
public import proofs.«01_k».proof.Proof.Gen.FfnFirstRefIdeal
public import Idealize.ShloMosaic.Adequacy
public import Idealize.ShloMosaic.Init

@[expose] public section

set_option maxRecDepth 16384

noncomputable section

namespace Cert.Proof.FfnFirstValue

open Idealize.ShloMosaic Idealize.ShloMosaic.TcCoe Idealize.SL.Sem
open Idealize.ShloMosaic.Pipeline (Dat)

section Run

open Cert.FfnFirst Cert.FfnFirst.Gen

variable {F : FTy → Type} [FloatOps F]

variable (m : (ℓ : Loc nD τ sig) → Buf (Elt F) ℓ) (ρ : Dev nD → PrngReg)

/-- Every execution ends with the result's array as the blocks make it, the arguments unchanged and the counters at zero. -/
theorem run_blocks : θ_run (defs (F := F)) (onTc (τ := τ) (main (F := F))) ⟨m, fun _ => 0, ρ⟩ (fun r =>
      (∀ c : Dev nD, r.2.mem ((c.tc : Thread nD τ).loc main_v3) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 3,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

end Run

/-! The idealization's definitions are the program's. -/

section Same

variable {F : FTy → Type} [FloatOps F]

theorem same_defs₀ : Cert.FfnFirstIdeal.defs₀ (F := F) = Cert.FfnFirst.defs₀ (F := F) := by
  unfold Cert.FfnFirstIdeal.defs₀ Cert.FfnFirst.defs₀
  congr 1
  funext l x
  match l, x with
  | 0, (t, s) => rfl

theorem same_defs : Cert.FfnFirstIdeal.defs (F := F) = Cert.FfnFirst.defs (F := F) := by
  unfold Cert.FfnFirstIdeal.defs Cert.FfnFirst.defs
  rw [same_defs₀]
  rfl

theorem same_main : Cert.FfnFirstIdeal.main (F := F) = Cert.FfnFirst.main (F := F) := rfl

end Same

theorem run_ideal (m : (ℓ : Loc Cert.FfnFirst.nD Cert.FfnFirst.τ Cert.FfnFirst.sig) → Buf (Elt Ideal) ℓ) (ρ : Dev Cert.FfnFirst.nD → PrngReg)
    {Q : PUnit × MemSt Cert.FfnFirst.nD Cert.FfnFirst.τ Cert.FfnFirst.sig (Elt Ideal) → Prop}
    (h : θ_run (Cert.FfnFirst.defs (F := Ideal)) (onTc (τ := Cert.FfnFirst.τ) (Cert.FfnFirst.main (F := Ideal))) ⟨m, fun _ => 0, ρ⟩ Q) :
    θ_run (Cert.FfnFirstIdeal.defs (F := Ideal)) (onTc (τ := Cert.FfnFirstIdeal.τ) (Cert.FfnFirstIdeal.main (F := Ideal))) ⟨m, fun _ => 0, ρ⟩ Q := by
  rw [show Cert.FfnFirstIdeal.defs (F := Ideal) = Cert.FfnFirst.defs (F := Ideal) from same_defs]
  exact h

theorem frame_p : Cert.quiescent_FfnFirst (hFfnFirst := Cert.FfnFirst.Gen.facts) :=
  fun m ρ _ => (θ_run Cert.FfnFirst.defs _ _).mono (fun _ h => ⟨fun c => (h.1 c).2, h.2⟩) (run_blocks (F := Bits) m ρ)

theorem frame_pi : Cert.quiescent_FfnFirstIdeal (hFfnFirstIdeal := Cert.FfnFirstIdeal.Gen.facts) :=
  fun m ρ _ => run_ideal m ρ ((θ_run Cert.FfnFirst.defs _ _).mono (fun _ h => ⟨fun c => (h.1 c).2, h.2⟩) (run_blocks (F := Ideal) m ρ))

theorem frame_ri : Cert.quiescent_FfnFirstRefIdeal (hFfnFirstRefIdeal := Cert.FfnFirstRefIdeal.Gen.facts) :=
  fun m ρ _ => (θ_run Cert.FfnFirstRefIdeal.defs _ _).mono (fun r h => ⟨fun c => (h c).2, sem_eq_zero_of_no_sems (by decide) r.2⟩)
    (Cert.FfnFirstRefIdeal.Value.run (F := Ideal) m ρ)

/-- Both results are `A`: the kernel's by its blocks, the reference's by its composed term. -/
theorem algebraic : Cert.algebraic_FfnFirstIdeal_FfnFirstRefIdeal (hFfnFirstIdeal := Cert.FfnFirstIdeal.Gen.facts) (hFfnFirstRefIdeal := Cert.FfnFirstRefIdeal.Gen.facts) :=
  fun m ρ m' ρ' _ hag => ⟨fun c => A m c,
    run_ideal m ρ ((θ_run Cert.FfnFirst.defs _ _).mono (fun _ h c => ⟨(h.1 c).1.trans (final m c), (h.1 c).2⟩) (run_blocks (F := Ideal) m ρ)),
    (θ_run Cert.FfnFirstRefIdeal.defs _ _).mono (fun _ h c =>
        have ⟨e0, e1, e2, e3, e4, e5⟩ := hag c
        ⟨(h c).1.trans (ref_eq m m' c e0 e1 e2 e3 e4 e5), (h c).2⟩)
      (Cert.FfnFirstRefIdeal.Value.run (F := Ideal) m' ρ')⟩

end Cert.Proof.FfnFirstValue

end
-- ==== Proof.MergeValue.lean ====
module

public import proofs.«01_k».proof.Proof.Gen.MergeIdeal.Value
public import proofs.«01_k».proof.Proof.Gen.MergeRefIdeal.Run
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.MergeValue

open Cert.MergeIdeal Cert.MergeIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- What one grid point leaves in the output's staging buffer, as a function of the blocks it reads. -/
def pay (x0 : Vec Ideal S1x688x1024 .f32) (x1 : Vec Ideal S688x512 .bf16) (x2 : Vec Ideal S1x688x512 .bf16)
    (x3 : Vec Ideal S1x1024 .f32) (x4 x5 : Vec Ideal S1024x1024 .bf16) (x6 x7 : Vec Ideal S1x1024 .f32)
    (x8 x9 : Vec Ideal S512x1024 .bf16) (x10 : Vec Ideal S1024x1024 .bf16) : Vec Ideal S1x688x1024 .f32 :=
  k0_pay1 (k0_pay3 (k0_pay2 x0 x3) x4 x6 x1 x8) (k0_pay2 x0 x3) x5 x7 x2 x9 x0 x10

theorem out_eq (c : Dev nD) (i : grid0.Coords) (a2 : Memref sig .tc .vmem S1x688x1024 .f32) (h2 : a2.IsWhole) (a3 : Memref sig .tc .vmem S688x512 .bf16) (h3 : a3.IsWhole) (a4 : Memref sig .tc .vmem S1x688x512 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S1x688x1024 .f32) (h13 : a13.IsWhole) (a14 : Memref sig .tc .vmem S688x1024 .bf16) (h14 : a14.IsWhole)
    (x0 : Vec Ideal S1x688x1024 .f32) (x1 : Vec Ideal S688x512 .bf16) (x2 : Vec Ideal S1x688x512 .bf16)
    (x3 : Vec Ideal S1x1024 .f32) (x4 x5 : Vec Ideal S1024x1024 .bf16) (x6 x7 : Vec Ideal S1x1024 .f32)
    (x8 x9 : Vec Ideal S512x1024 .bf16) (x10 : Vec Ideal S1024x1024 .bf16) :
    out0_A_11 c i a2 h2 a3 h3 a4 h4 a5 h5 a6 h6 a7 h7 a8 h8 a9 h9 a10 h10 a11 h11 a12 h12 a13 h13 a14 h14 x0 x1 x2 x3 x4 x5 x6 x7 x8 x9 x10
      = pay x0 x1 x2 x3 x4 x5 x6 x7 x8 x9 x10 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  sl_unfold_words
  rw [View.canon_unit_zero (S := S1x688x1024) hz3]
  unfold pay
  simp only [View.readCov_unit_zero (S := S688x1024) _ hz2, View.readAt_eq_ld, h2.read_unread, h3.read_unread, h4.read_unread, h5.read_unread, h6.read_unread, h7.read_unread, h8.read_unread, h9.read_unread, h10.read_unread, h11.read_unread, h12.read_unread,
    View.ld_unit_zero (S := S1x688x1024) hz3, View.ld_unit_zero (S := S688x512) hz2, View.ld_unit_zero (S := S1x688x512) hz3, View.ld_unit_zero (S := S1x1024) hz2, View.ld_unit_zero (S := S1024x1024) hz2, View.ld_unit_zero (S := S512x1024) hz2]

end Cert.Proof.MergeValue

end
-- ==== Proof.MergeBlocks.lean ====
module

public import proofs.«01_k».proof.Proof.MergeValue
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.MergeValue

open Cert.MergeIdeal Cert.MergeIdeal.Gen

variable (m : (ℓ : Loc nD τ sig) → Buf (Elt Ideal) ℓ)

/-! The arrays the region reads, at an index. -/

theorem in1 (c : Dev nD) (s : Fin 2064) (b : Fin 16) (l : Fin 512) (h : 512 * b.val + l.val < 8192) :
    (V m c main_v4 : FVec Ideal S2064x8192 .bf16) (ix2 s ⟨512 * b.val + l.val, h⟩) = (m ((c : Thread nD τ).loc main_arg1) : FVec Ideal S16x2064x512 .f32) (ix3 b s l) := by
  unfold V hostOps0
  after_results_simp
  pointwise

theorem in2 (c : Dev nD) (b : Fin 16) (s : Fin 2064) (l : Fin 512) :
    (V m c main_v5 : FVec Ideal S16x2064x512 .bf16) (ix3 b s l) = (m ((c : Thread nD τ).loc main_arg2) : FVec Ideal S16x2064x512 .f32) (ix3 b s l) := by
  unfold V hostOps0
  after_results_simp
  pointwise

theorem in3 (c : Dev nD) (z : Fin 1) (l : Fin 1024) :
    (V m c main_v8 : FVec Ideal S1x1024 .f32) (ix2 z l) = (m ((c : Thread nD τ).loc main_arg3) : FVec Ideal S2x1024 .f32) (ix2 0 l) := by
  unfold V hostOps0
  after_results_simp
  pointwise

theorem in4 (c : Dev nD) (k l : Fin 1024) :
    (V m c main_v10 : FVec Ideal S1024x1024 .bf16) (ix2 k l) = (m ((c : Thread nD τ).loc main_arg4) : FVec Ideal S2x1024x4104 .f32) (ix3 0 k ⟨2056 + l, by omega⟩) := by
  unfold V hostOps0
  after_results_simp
  pointwise

theorem in5 (c : Dev nD) (k l : Fin 1024) :
    (V m c main_v12 : FVec Ideal S1024x1024 .bf16) (ix2 k l) = (m ((c : Thread nD τ).loc main_arg4) : FVec Ideal S2x1024x4104 .f32) (ix3 0 k ⟨2056 + (1024 + l), by omega⟩) := by
  unfold V hostOps0
  after_results_simp
  pointwise
  exact congrArg _ (congrArg _ (Fin.ext (by simp only; omega)))

theorem in6 (c : Dev nD) (z : Fin 1) (l : Fin 1024) :
    (V m c main_v15 : FVec Ideal S1x1024 .f32) (ix2 z l) = (m ((c : Thread nD τ).loc main_arg5) : FVec Ideal S2x2048 .f32) (ix2 0 ⟨l, by omega⟩) := by
  unfold V hostOps0
  after_results_simp
  pointwise

theorem in7 (c : Dev nD) (z : Fin 1) (l : Fin 1024) :
    (V m c main_v18 : FVec Ideal S1x1024 .f32) (ix2 z l) = (m ((c : Thread nD τ).loc main_arg5) : FVec Ideal S2x2048 .f32) (ix2 0 ⟨1024 + l, by omega⟩) := by
  unfold V hostOps0
  after_results_simp
  pointwise

theorem in8 (c : Dev nD) (k : Fin 512) (l : Fin 1024) :
    (V m c main_v21 : FVec Ideal S512x1024 .bf16) (ix2 k l) = (m ((c : Thread nD τ).loc main_arg6) : FVec Ideal S2x512x1024 .f32) (ix3 0 k l) := by
  unfold V hostOps0
  after_results_simp
  pointwise

theorem in9 (c : Dev nD) (k : Fin 512) (l : Fin 1024) :
    (V m c main_v24 : FVec Ideal S512x1024 .bf16) (ix2 k l) = (m ((c : Thread nD τ).loc main_arg7) : FVec Ideal S2x512x1024 .f32) (ix3 0 k l) := by
  unfold V hostOps0
  after_results_simp
  pointwise

theorem in10 (c : Dev nD) (k l : Fin 1024) :
    (V m c main_v27 : FVec Ideal S1024x1024 .bf16) (ix2 k l) = (m ((c : Thread nD τ).loc main_arg8) : FVec Ideal S2x1024x1024 .f32) (ix3 0 k l) := by
  unfold V hostOps0
  after_results_simp
  pointwise

/-! The index maps, and the blocks at an index. -/

theorem idx0 : ∀ t : Fin grid0.N, win0_0.index t 0 = t.val / 3 ∧ win0_0.index t 1 = t.val % 3 ∧ win0_0.index t 2 = 0 := by decide +kernel
theorem idx1 : ∀ t : Fin grid0.N, win0_1.index t 0 = t.val % 3 ∧ win0_1.index t 1 = t.val / 3 := by decide +kernel
theorem idx2 : ∀ t : Fin grid0.N, win0_2.index t 0 = t.val / 3 ∧ win0_2.index t 1 = t.val % 3 ∧ win0_2.index t 2 = 0 := by decide +kernel
theorem idx11 : ∀ t : Fin grid0.N, win0_11.index t 0 = t.val / 3 ∧ win0_11.index t 1 = t.val % 3 ∧ win0_11.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel

theorem blk0 (c : Dev nD) (t : Fin cfg0.N) (z : Fin 1) (r : Fin 688) (l : Fin 1024) (hb : t.val / 3 < 16) (hs : 688 * (t.val % 3) + r.val < 2064) :
    (iblk m c 0 t : Vec Ideal S1x688x1024 .f32) (ix3 z r l) = (V m c main_arg0 : FVec Ideal S16x2064x1024 .f32) (ix3 ⟨t.val / 3, hb⟩ ⟨688 * (t.val % 3) + r.val, hs⟩ l) := by
  have hi := idx0 t
  unfold iblk
  rw [View.read_apply]
  show V m c main_arg0 _ = V m c main_arg0 _
  congr 1
  funext a
  apply Fin.ext
  match a with
  | ⟨0, _⟩ => show win0_0.index t 0 * 1 + 1 * z.val = t.val / 3; rw [hi.1]; omega
  | ⟨1, _⟩ => show win0_0.index t 1 * 688 + 1 * r.val = 688 * (t.val % 3) + r.val; rw [hi.2.1]; omega
  | ⟨2, _⟩ => show win0_0.index t 2 * 1024 + 1 * l.val = l.val; rw [hi.2.2]; omega

theorem blk1 (c : Dev nD) (t : Fin cfg0.N) (r : Fin 688) (l : Fin 512) (hs : 688 * (t.val % 3) + r.val < 2064) (h : 512 * (t.val / 3) + l.val < 8192) :
    (iblk m c 1 t : Vec Ideal S688x512 .bf16) (ix2 r l) = (V m c main_v4 : FVec Ideal S2064x8192 .bf16) (ix2 ⟨688 * (t.val % 3) + r.val, hs⟩ ⟨512 * (t.val / 3) + l.val, h⟩) := by
  have hi := idx1 t
  unfold iblk
  rw [View.read_apply]
  show V m c main_v4 _ = V m c main_v4 _
  congr 1
  funext a
  apply Fin.ext
  match a with
  | ⟨0, _⟩ => show win0_1.index t 0 * 688 + 1 * r.val = 688 * (t.val % 3) + r.val; rw [hi.1]; omega
  | ⟨1, _⟩ => show win0_1.index t 1 * 512 + 1 * l.val = 512 * (t.val / 3) + l.val; rw [hi.2]; omega

theorem blk2 (c : Dev nD) (t : Fin cfg0.N) (z : Fin 1) (r : Fin 688) (l : Fin 512) (hb : t.val / 3 < 16) (hs : 688 * (t.val % 3) + r.val < 2064) :
    (iblk m c 2 t : Vec Ideal S1x688x512 .bf16) (ix3 z r l) = (V m c main_v5 : FVec Ideal S16x2064x512 .bf16) (ix3 ⟨t.val / 3, hb⟩ ⟨688 * (t.val % 3) + r.val, hs⟩ l) := by
  have hi := idx2 t
  unfold iblk
  rw [View.read_apply]
  show V m c main_v5 _ = V m c main_v5 _
  congr 1
  funext a
  apply Fin.ext
  match a with
  | ⟨0, _⟩ => show win0_2.index t 0 * 1 + 1 * z.val = t.val / 3; rw [hi.1]; omega
  | ⟨1, _⟩ => show win0_2.index t 1 * 688 + 1 * r.val = 688 * (t.val % 3) + r.val; rw [hi.2.1]; omega
  | ⟨2, _⟩ => show win0_2.index t 2 * 512 + 1 * l.val = l.val; rw [hi.2.2]; omega

theorem blk3 (c : Dev nD) (t : Fin cfg0.N) (r : Fin 1) (l : Fin 1024) :
    (iblk m c 3 t : Vec Ideal S1x1024 .f32) (ix2 r l) = (V m c main_v8 : FVec Ideal S1x1024 .f32) (ix2 r l) := by
  have hi := idx3 t
  unfold iblk
  rw [View.read_apply]
  show V m c main_v8 _ = V m c main_v8 _
  congr 1
  funext a
  apply Fin.ext
  match a with
  | ⟨0, _⟩ => show win0_3.index t 0 * 1 + 1 * r.val = r.val; rw [hi.1]; omega
  | ⟨1, _⟩ => show win0_3.index t 1 * 1024 + 1 * l.val = l.val; rw [hi.2]; omega

theorem blk4 (c : Dev nD) (t : Fin cfg0.N) (r : Fin 1024) (l : Fin 1024) :
    (iblk m c 4 t : Vec Ideal S1024x1024 .bf16) (ix2 r l) = (V m c main_v10 : FVec Ideal S1024x1024 .bf16) (ix2 r l) := by
  have hi := idx4 t
  unfold iblk
  rw [View.read_apply]
  show V m c main_v10 _ = V m c main_v10 _
  congr 1
  funext a
  apply Fin.ext
  match a with
  | ⟨0, _⟩ => show win0_4.index t 0 * 1024 + 1 * r.val = r.val; rw [hi.1]; omega
  | ⟨1, _⟩ => show win0_4.index t 1 * 1024 + 1 * l.val = l.val; rw [hi.2]; omega

theorem blk5 (c : Dev nD) (t : Fin cfg0.N) (r : Fin 1024) (l : Fin 1024) :
    (iblk m c 5 t : Vec Ideal S1024x1024 .bf16) (ix2 r l) = (V m c main_v12 : FVec Ideal S1024x1024 .bf16) (ix2 r l) := by
  have hi := idx5 t
  unfold iblk
  rw [View.read_apply]
  show V m c main_v12 _ = V m c main_v12 _
  congr 1
  funext a
  apply Fin.ext
  match a with
  | ⟨0, _⟩ => show win0_5.index t 0 * 1024 + 1 * r.val = r.val; rw [hi.1]; omega
  | ⟨1, _⟩ => show win0_5.index t 1 * 1024 + 1 * l.val = l.val; rw [hi.2]; omega

theorem blk6 (c : Dev nD) (t : Fin cfg0.N) (r : Fin 1) (l : Fin 1024) :
    (iblk m c 6 t : Vec Ideal S1x1024 .f32) (ix2 r l) = (V m c main_v15 : FVec Ideal S1x1024 .f32) (ix2 r l) := by
  have hi := idx6 t
  unfold iblk
  rw [View.read_apply]
  show V m c main_v15 _ = V m c main_v15 _
  congr 1
  funext a
  apply Fin.ext
  match a with
  | ⟨0, _⟩ => show win0_6.index t 0 * 1 + 1 * r.val = r.val; rw [hi.1]; omega
  | ⟨1, _⟩ => show win0_6.index t 1 * 1024 + 1 * l.val = l.val; rw [hi.2]; omega

theorem blk7 (c : Dev nD) (t : Fin cfg0.N) (r : Fin 1) (l : Fin 1024) :
    (iblk m c 7 t : Vec Ideal S1x1024 .f32) (ix2 r l) = (V m c main_v18 : FVec Ideal S1x1024 .f32) (ix2 r l) := by
  have hi := idx7 t
  unfold iblk
  rw [View.read_apply]
  show V m c main_v18 _ = V m c main_v18 _
  congr 1
  funext a
  apply Fin.ext
  match a with
  | ⟨0, _⟩ => show win0_7.index t 0 * 1 + 1 * r.val = r.val; rw [hi.1]; omega
  | ⟨1, _⟩ => show win0_7.index t 1 * 1024 + 1 * l.val = l.val; rw [hi.2]; omega

theorem blk8 (c : Dev nD) (t : Fin cfg0.N) (r : Fin 512) (l : Fin 1024) :
    (iblk m c 8 t : Vec Ideal S512x1024 .bf16) (ix2 r l) = (V m c main_v21 : FVec Ideal S512x1024 .bf16) (ix2 r l) := by
  have hi := idx8 t
  unfold iblk
  rw [View.read_apply]
  show V m c main_v21 _ = V m c main_v21 _
  congr 1
  funext a
  apply Fin.ext
  match a with
  | ⟨0, _⟩ => show win0_8.index t 0 * 512 + 1 * r.val = r.val; rw [hi.1]; omega
  | ⟨1, _⟩ => show win0_8.index t 1 * 1024 + 1 * l.val = l.val; rw [hi.2]; omega

theorem blk9 (c : Dev nD) (t : Fin cfg0.N) (r : Fin 512) (l : Fin 1024) :
    (iblk m c 9 t : Vec Ideal S512x1024 .bf16) (ix2 r l) = (V m c main_v24 : FVec Ideal S512x1024 .bf16) (ix2 r l) := by
  have hi := idx9 t
  unfold iblk
  rw [View.read_apply]
  show V m c main_v24 _ = V m c main_v24 _
  congr 1
  funext a
  apply Fin.ext
  match a with
  | ⟨0, _⟩ => show win0_9.index t 0 * 512 + 1 * r.val = r.val; rw [hi.1]; omega
  | ⟨1, _⟩ => show win0_9.index t 1 * 1024 + 1 * l.val = l.val; rw [hi.2]; omega

theorem blk10 (c : Dev nD) (t : Fin cfg0.N) (r : Fin 1024) (l : Fin 1024) :
    (iblk m c 10 t : Vec Ideal S1024x1024 .bf16) (ix2 r l) = (V m c main_v27 : FVec Ideal S1024x1024 .bf16) (ix2 r l) := by
  have hi := idx10 t
  unfold iblk
  rw [View.read_apply]
  show V m c main_v27 _ = V m c main_v27 _
  congr 1
  funext a
  apply Fin.ext
  match a with
  | ⟨0, _⟩ => show win0_10.index t 0 * 1024 + 1 * r.val = r.val; rw [hi.1]; omega
  | ⟨1, _⟩ => show win0_10.index t 1 * 1024 + 1 * l.val = l.val; rw [hi.2]; omega

/-- One number of the merge's result: the state's, plus the gated branches' product with a column of the output projection. -/
def cell (h g : Fin 1024 → EReal) (wga wgb : Fin 1024 → Fin 1024 → EReal) (bga bgb : Fin 1024 → EReal) (ya yb : Fin 512 → EReal)
    (wa wb : Fin 512 → Fin 1024 → EReal) (wo : Fin 1024 → EReal) (l : Fin 1024) : EReal :=
  h l + ∑ x : Fin 1024,
    (Ideal.logistic (∑ k : Fin 1024, h k * Ideal.rsqrt (Ideal.div (∑ x : Fin 1024, h x * h x) (Ideal.ofBits FTy.f32 1149239296#32) + Ideal.ofBits FTy.f32 897988541#32) * g k * wga k x + bga x) * ∑ k : Fin 512, ya k * wa k x
      + Ideal.logistic (∑ k : Fin 1024, h k * Ideal.rsqrt (Ideal.div (∑ x : Fin 1024, h x * h x) (Ideal.ofBits FTy.f32 1149239296#32) + Ideal.ofBits FTy.f32 897988541#32) * g k * wgb k x + bgb x) * ∑ k : Fin 512, yb k * wb k x)
      * wo x

theorem pay_apply (x0 : Vec Ideal S1x688x1024 .f32) (x1 : Vec Ideal S688x512 .bf16) (x2 : Vec Ideal S1x688x512 .bf16)
    (x3 : Vec Ideal S1x1024 .f32) (x4 x5 : Vec Ideal S1024x1024 .bf16) (x6 x7 : Vec Ideal S1x1024 .f32)
    (x8 x9 : Vec Ideal S512x1024 .bf16) (x10 : Vec Ideal S1024x1024 .bf16) (z : Fin 1) (r : Fin 688) (l : Fin 1024) :
    pay x0 x1 x2 x3 x4 x5 x6 x7 x8 x9 x10 (ix3 z r l) = cell (fun k => x0 (ix3 0 r k)) (fun k => x3 (ix2 0 k)) (fun k x => x4 (ix2 k x)) (fun k x => x5 (ix2 k x))
      (fun x => x6 (ix2 0 x)) (fun x => x7 (ix2 0 x)) (fun k => x1 (ix2 r k)) (fun k => x2 (ix3 0 r k)) (fun k x => x8 (ix2 k x)) (fun k x => x9 (ix2 k x)) (fun x => x10 (ix2 x l)) l := by
  pointwise [pay, k0_pay1, k0_pay2, k0_pay3, cell]

/-- The merge's result as one function of the arguments. -/
def G (c : Dev nD) (b : Fin 16) (s : Fin 2064) (l : Fin 1024) : EReal :=
  cell (fun k => (m ((c : Thread nD τ).loc main_arg0) : FVec Ideal S16x2064x1024 .f32) (ix3 b s k))
    (fun k => (m ((c : Thread nD τ).loc main_arg3) : FVec Ideal S2x1024 .f32) (ix2 0 k))
    (fun k x => (m ((c : Thread nD τ).loc main_arg4) : FVec Ideal S2x1024x4104 .f32) (ix3 0 k ⟨2056 + x, by omega⟩))
    (fun k x => (m ((c : Thread nD τ).loc main_arg4) : FVec Ideal S2x1024x4104 .f32) (ix3 0 k ⟨2056 + (1024 + x), by omega⟩))
    (fun x => (m ((c : Thread nD τ).loc main_arg5) : FVec Ideal S2x2048 .f32) (ix2 0 ⟨x, by omega⟩))
    (fun x => (m ((c : Thread nD τ).loc main_arg5) : FVec Ideal S2x2048 .f32) (ix2 0 ⟨1024 + x, by omega⟩))
    (fun k => (m ((c : Thread nD τ).loc main_arg1) : FVec Ideal S16x2064x512 .f32) (ix3 b s k))
    (fun k => (m ((c : Thread nD τ).loc main_arg2) : FVec Ideal S16x2064x512 .f32) (ix3 b s k))
    (fun k x => (m ((c : Thread nD τ).loc main_arg6) : FVec Ideal S2x512x1024 .f32) (ix3 0 k x))
    (fun k x => (m ((c : Thread nD τ).loc main_arg7) : FVec Ideal S2x512x1024 .f32) (ix3 0 k x))
    (fun x => (m ((c : Thread nD τ).loc main_arg8) : FVec Ideal S2x1024x1024 .f32) (ix3 0 x l)) l

/-- The same as an array. -/
def A (c : Dev nD) : FVec Ideal S16x2064x1024 .f32 := fun i => G m c (i 0) (i 1) (i 2)

theorem ex3 {p q r : Nat} (i : (a : Fin 3) → Fin (![p, q, r] a)) : ∃ (x : Fin p) (y : Fin q) (z : Fin r), i = ix3 x y z :=
  ⟨i 0, i 1, i 2, funext fun a => match a with | ⟨0, _⟩ => rfl | ⟨1, _⟩ => rfl | ⟨2, _⟩ => rfl⟩

/-- Point `t`'s block of an array of the result's shape, at an index. -/
theorem blk_out (c : Dev nD) (X : FVec Ideal S16x2064x1024 .f32) (t : Fin cfg0.N) (z : Fin 1) (r : Fin 688) (l : Fin 1024) (hb : t.val / 3 < 16) (hs : 688 * (t.val % 3) + r.val < 2064) :
    ((cfg0.win 11).blk t).view.read (Elt Ideal) X (ix3 z r l) = X (ix3 ⟨t.val / 3, hb⟩ ⟨688 * (t.val % 3) + r.val, hs⟩ l) := by
  have hi := idx11 t
  rw [View.read_apply]
  show X _ = X _
  congr 1
  funext a
  apply Fin.ext
  match a with
  | ⟨0, _⟩ => show win0_11.index t 0 * 1 + 1 * z.val = t.val / 3; rw [hi.1]; omega
  | ⟨1, _⟩ => show win0_11.index t 1 * 688 + 1 * r.val = 688 * (t.val % 3) + r.val; rw [hi.2.1]; omega
  | ⟨2, _⟩ => show win0_11.index t 2 * 1024 + 1 * l.val = l.val; rw [hi.2.2]; omega

theorem cell_congr {h h' g g' : Fin 1024 → EReal} {wga wga' wgb wgb' : Fin 1024 → Fin 1024 → EReal} {bga bga' bgb bgb' : Fin 1024 → EReal} {ya ya' yb yb' : Fin 512 → EReal}
    {wa wa' wb wb' : Fin 512 → Fin 1024 → EReal} {wo wo' : Fin 1024 → EReal} (l : Fin 1024) (e0 : ∀ k, h k = h' k) (e1 : ∀ k, g k = g' k)
    (e2 : ∀ k x, wga k x = wga' k x) (e3 : ∀ k x, wgb k x = wgb' k x) (e4 : ∀ k, bga k = bga' k) (e5 : ∀ k, bgb k = bgb' k) (e6 : ∀ k, ya k = ya' k) (e7 : ∀ k, yb k = yb' k)
    (e8 : ∀ k x, wa k x = wa' k x) (e9 : ∀ k x, wb k x = wb' k x) (e10 : ∀ k, wo k = wo' k) :
    cell h g wga wgb bga bgb ya yb wa wb wo l = cell h' g' wga' wgb' bga' bgb' ya' yb' wa' wb' wo' l := by
  obtain rfl := funext e0; obtain rfl := funext e1; obtain rfl := funext fun k => funext (e2 k); obtain rfl := funext fun k => funext (e3 k)
  obtain rfl := funext e4; obtain rfl := funext e5; obtain rfl := funext e6; obtain rfl := funext e7
  obtain rfl := funext fun k => funext (e8 k); obtain rfl := funext fun k => funext (e9 k); obtain rfl := funext e10
  rfl

/-- What point `t` leaves, at an index, as a function of the arguments. -/
theorem pay_iblk (c : Dev nD) (t : Fin cfg0.N) (z : Fin 1) (r : Fin 688) (l : Fin 1024) (hb : t.val / 3 < 16) (hs : 688 * (t.val % 3) + r.val < 2064) :
    pay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = G m c ⟨t.val / 3, hb⟩ ⟨688 * (t.val % 3) + r.val, hs⟩ l := by
  have h5 : ∀ l : Fin 512, 512 * (t.val / 3) + l.val < 8192 := fun l => by omega
  refine (pay_apply _ _ _ _ _ _ _ _ _ _ _ z r l).trans ?_
  unfold G
  exact cell_congr l (fun k => (blk0 m c t 0 r k hb hs).trans (congrFun (V_main_arg0 m c) _)) (fun k => (blk3 m c t 0 k).trans (in3 m c 0 k))
    (fun k x => (blk4 m c t k x).trans (in4 m c k x)) (fun k x => (blk5 m c t k x).trans (in5 m c k x))
    (fun k => (blk6 m c t 0 k).trans (in6 m c 0 k)) (fun k => (blk7 m c t 0 k).trans (in7 m c 0 k))
    (fun k => (blk1 m c t r k hs (h5 k)).trans (in1 m c _ ⟨t.val / 3, hb⟩ k _)) (fun k => (blk2 m c t 0 r k hb hs).trans (in2 m c _ _ k))
    (fun k x => (blk8 m c t k x).trans (in8 m c k x)) (fun k x => (blk9 m c t k x).trans (in9 m c k x)) (fun k => (blk10 m c t k l).trans (in10 m c k l))

/-- Point `t` writes its block of the result. -/
theorem flushed_eq (c : Dev nD) (t : Fin cfg0.N) :
    (dats m 0 c).flushed 11 t = ((cfg0.win 11).blk t).view.read (Elt Ideal) (A m c) := by
  have hN : t.val < 48 := t.isLt
  have hb : t.val / 3 < 16 := by omega
  rw [Cert.MergeIdeal.Value.flushed11_A, out_eq]
  funext j
  obtain ⟨z, r, l, rfl⟩ : ∃ (z : Fin 1) (r : Fin 688) (l : Fin 1024), j = ix3 z r l := ex3 j
  have hs : 688 * (t.val % 3) + r.val < 2064 := by omega
  exact (pay_iblk m c t z r l hb hs).trans (blk_out c (A m c) t z r l hb hs).symm

theorem cover (i : S16x2064x1024.Idx) : ∃ t : Fin cfg0.N, (cfg0.win 11).flush t = true ∧ i ∈ ((cfg0.win 11).blk t).view.set := by
  have h0 : (i 0 : Nat) < 16 := (i 0).isLt
  have h1 : (i 1 : Nat) < 2064 := (i 1).isLt
  have h2 : (i 2 : Nat) < 1024 := (i 2).isLt
  have hN : cfg0.N = 48 := N_0
  let t : Fin cfg0.N := ⟨3 * (i 0 : Nat) + (i 1 : Nat) / 688, by omega⟩
  refine ⟨t, flush0_11 t, ?_⟩
  have hi := idx11 t
  have ht : t.val = 3 * (i 0 : Nat) + (i 1 : Nat) / 688 := rfl
  show i ∈ ((View.whole main_v28).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1; rw [hi.1]; omega
  | ⟨1, _⟩ => show win0_11.index t 1 * 688 ≤ (i 1 : Nat) ∧ (i 1 : Nat) < win0_11.index t 1 * 688 + 688; rw [hi.2.1]; omega
  | ⟨2, _⟩ => show win0_11.index t 2 * 1024 ≤ (i 2 : Nat) ∧ (i 2 : Nat) < win0_11.index t 2 * 1024 + 1024; rw [hi.2.2]; omega

theorem final (c : Dev nD) : (dats m 0 c).arrAt 11 cfg0.N = A m c :=
  (dats m 0 c).arrAt_eq_of_cover 11 (A m c) (fun t _ => flushed_eq m c t) cover

/-- The reference's result is the same function of its arguments. -/
theorem ref_eq (m' : (ℓ : Loc Cert.MergeRefIdeal.nD Cert.MergeRefIdeal.τ Cert.MergeRefIdeal.sig) → Buf (Elt Ideal) ℓ) (c : Dev nD)
    (e0 : m' ((c.tc : Thread _ _).loc Cert.MergeRefIdeal.main_arg0) = m ((c : Thread nD τ).loc main_arg0))
    (e1 : m' ((c.tc : Thread _ _).loc Cert.MergeRefIdeal.main_arg1) = m ((c : Thread nD τ).loc main_arg1))
    (e2 : m' ((c.tc : Thread _ _).loc Cert.MergeRefIdeal.main_arg2) = m ((c : Thread nD τ).loc main_arg2))
    (e3 : m' ((c.tc : Thread _ _).loc Cert.MergeRefIdeal.main_arg3) = m ((c : Thread nD τ).loc main_arg3))
    (e4 : m' ((c.tc : Thread _ _).loc Cert.MergeRefIdeal.main_arg4) = m ((c : Thread nD τ).loc main_arg4))
    (e5 : m' ((c.tc : Thread _ _).loc Cert.MergeRefIdeal.main_arg5) = m ((c : Thread nD τ).loc main_arg5))
    (e6 : m' ((c.tc : Thread _ _).loc Cert.MergeRefIdeal.main_arg6) = m ((c : Thread nD τ).loc main_arg6))
    (e7 : m' ((c.tc : Thread _ _).loc Cert.MergeRefIdeal.main_arg7) = m ((c : Thread nD τ).loc main_arg7))
    (e8 : m' ((c.tc : Thread _ _).loc Cert.MergeRefIdeal.main_arg8) = m ((c : Thread nD τ).loc main_arg8)) :
    Cert.MergeRefIdeal.Value.res_out0 m' c = A m c := by
  funext i
  obtain ⟨b, s, l, rfl⟩ := ex3 (p := 16) (q := 2064) (r := 1024) i
  unfold Cert.MergeRefIdeal.Value.res_out0 Cert.MergeRefIdeal.Value.res_main_v44
  rw [e0, e1, e2, e3, e4, e5, e6, e7, e8]
  show _ = G m c b s l
  pointwise [G, cell, Ideal.logistic]

end Cert.Proof.MergeValue

end
-- ==== Proof.MergeClaims.lean ====
/- The claims about the call that joins the two mixers: the programs' own runs, and the equality of the results that
   Proof/MergeBlocks.lean proves. -/
module

public import proofs.«01_k».proof.Defs
public import proofs.«01_k».proof.Proof.MergeBlocks
public import proofs.«01_k».proof.Proof.Gen.Merge
public import proofs.«01_k».proof.Proof.Gen.Merge.Frame
public import proofs.«01_k».proof.Proof.Gen.MergeIdeal
public import proofs.«01_k».proof.Proof.Gen.MergeRefIdeal
public import Idealize.ShloMosaic.Adequacy
public import Idealize.ShloMosaic.Init

@[expose] public section

noncomputable section

namespace Cert.Proof.MergeClaims

open Idealize.ShloMosaic Idealize.SL.Sem

theorem frame_p : Cert.quiescent_Merge (hMerge := Cert.Merge.Gen.facts) :=
  fun m ρ _ => Cert.Merge.Gen.frame m ρ

theorem frame_pi : Cert.quiescent_MergeIdeal (hMergeIdeal := Cert.MergeIdeal.Gen.facts) :=
  fun m ρ _ => Cert.MergeIdeal.Gen.frame m ρ

theorem frame_ri : Cert.quiescent_MergeRefIdeal (hMergeRefIdeal := Cert.MergeRefIdeal.Gen.facts) :=
  fun m ρ _ => (θ_run Cert.MergeRefIdeal.defs _ _).mono (fun r h => ⟨fun c => (h c).2, sem_eq_zero_of_no_sems (by decide) r.2⟩)
    (Cert.MergeRefIdeal.Value.run (F := Ideal) m ρ)

/-- Both results are `MergeValue.A`: the kernel's by its blocks, the reference's by its composed term. -/
theorem algebraic : Cert.algebraic_MergeIdeal_MergeRefIdeal (hMergeIdeal := Cert.MergeIdeal.Gen.facts) (hMergeRefIdeal := Cert.MergeRefIdeal.Gen.facts) :=
  fun m ρ m' ρ' _ hag => ⟨fun c => MergeValue.A m c,
    (θ_run Cert.MergeIdeal.defs _ _).mono (fun _ h c => ⟨(h c).1.trans (MergeValue.final m c), (h c).2⟩) (Cert.MergeIdeal.Value.run_blocks m ρ),
    (θ_run Cert.MergeRefIdeal.defs _ _).mono (fun _ h c =>
        have ⟨e0, e1, e2, e3, e4, e5, e6, e7, e8⟩ := hag c
        ⟨(h c).1.trans (MergeValue.ref_eq m m' c e0 e1 e2 e3 e4 e5 e6 e7 e8), (h c).2⟩)
      (Cert.MergeRefIdeal.Value.run (F := Ideal) m' ρ')⟩

end Cert.Proof.MergeClaims

end
-- ==== Proof.lean ====
/- The certificate: the programs' stated facts and the claims about them. -/
module

public import proofs.«01_k».proof.Defs
public import proofs.«01_k».proof.Proof.FfnLastClaims
public import proofs.«01_k».proof.Proof.FfnClaims
public import proofs.«01_k».proof.Proof.FfnFirstClaims
public import proofs.«01_k».proof.Proof.MergeClaims

@[expose] public section

noncomputable section

namespace Cert.Proof

open Idealize.ShloMosaic Idealize.SL.Sem

theorem claim : Cert.Claim :=
  ⟨Cert.FfnLast.Gen.facts, Cert.FfnLastIdeal.Gen.facts, Cert.FfnLastRefIdeal.Gen.facts,
    Cert.Ffn.Gen.facts, Cert.FfnIdeal.Gen.facts, Cert.FfnRefIdeal.Gen.facts,
    Cert.FfnFirst.Gen.facts, Cert.FfnFirstIdeal.Gen.facts, Cert.FfnFirstRefIdeal.Gen.facts,
    Cert.Merge.Gen.facts, Cert.MergeIdeal.Gen.facts, Cert.MergeRefIdeal.Gen.facts,
    FfnLastValue.frame_p, FfnLastValue.frame_pi, FfnLastValue.frame_ri,
    FfnValue.frame_p, FfnValue.frame_pi, FfnValue.frame_ri,
    FfnFirstValue.frame_p, FfnFirstValue.frame_pi, FfnFirstValue.frame_ri,
    MergeClaims.frame_p, MergeClaims.frame_pi, MergeClaims.frame_ri,
    trivial, FfnLastValue.algebraic, trivial, FfnValue.algebraic, trivial, FfnFirstValue.algebraic,
    trivial, MergeClaims.algebraic⟩

end Cert.Proof

end
